-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))) = (fun _ => 1#1)

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatRefIdeal (m : (ℓ : Loc Cert.DycatRefIdeal.nD Cert.DycatRefIdeal.τ Cert.DycatRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgRefIdeal (m : (ℓ : Loc Cert.DwgRefIdeal.nD Cert.DwgRefIdeal.τ Cert.DwgRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1)
      ∧ r.2.mem ((c.tc : Thread Cert.Dycat.nD Cert.Dycat.τ).loc Cert.Dycat.main_arg2) = m ((c.tc : Thread Cert.Dycat.nD Cert.Dycat.τ).loc Cert.Dycat.main_arg2))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
      ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ r.2.sem = fun _ => 0)

def quiescent_DycatRefIdeal [hDycatRefIdeal : Cert.DycatRefIdeal.Facts] : Prop :=
  ∀ (m : (ℓ : Loc Cert.DycatRefIdeal.nD Cert.DycatRefIdeal.τ Cert.DycatRefIdeal.sig) → Buf (Elt Ideal) ℓ) (g : Dev Cert.DycatRefIdeal.nD → PrngReg), Pre_DycatRefIdeal m →
    θ_run (Cert.DycatRefIdeal.defs (F := Ideal)) (onTc (τ := Cert.DycatRefIdeal.τ) (Cert.DycatRefIdeal.main (F := Ideal))) ⟨m, fun _ => 0, g⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1)
      ∧ r.2.mem ((c.tc : Thread Cert.DycatRefIdeal.nD Cert.DycatRefIdeal.τ).loc Cert.DycatRefIdeal.main_arg2) = m ((c.tc : Thread Cert.DycatRefIdeal.nD Cert.DycatRefIdeal.τ).loc Cert.DycatRefIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1)
      ∧ r.2.mem ((c.tc : Thread Cert.DwdRefIdeal.nD Cert.DwdRefIdeal.τ).loc Cert.DwdRefIdeal.main_arg2) = m ((c.tc : Thread Cert.DwdRefIdeal.nD Cert.DwdRefIdeal.τ).loc Cert.DwdRefIdeal.main_arg2))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1)
      ∧ r.2.mem ((c.tc : Thread Cert.Dwg.nD Cert.Dwg.τ).loc Cert.Dwg.main_arg2) = m ((c.tc : Thread Cert.Dwg.nD Cert.Dwg.τ).loc Cert.Dwg.main_arg2))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
      ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2))
      ∧ r.2.sem = fun _ => 0)

def quiescent_DwgRefIdeal [hDwgRefIdeal : Cert.DwgRefIdeal.Facts] : Prop :=
  ∀ (m : (ℓ : Loc Cert.DwgRefIdeal.nD Cert.DwgRefIdeal.τ Cert.DwgRefIdeal.sig) → Buf (Elt Ideal) ℓ) (g : Dev Cert.DwgRefIdeal.nD → PrngReg), Pre_DwgRefIdeal m →
    θ_run (Cert.DwgRefIdeal.defs (F := Ideal)) (onTc (τ := Cert.DwgRefIdeal.τ) (Cert.DwgRefIdeal.main (F := Ideal))) ⟨m, fun _ => 0, g⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1)
      ∧ r.2.mem ((c.tc : Thread Cert.DwgRefIdeal.nD Cert.DwgRefIdeal.τ).loc Cert.DwgRefIdeal.main_arg2) = m ((c.tc : Thread Cert.DwgRefIdeal.nD Cert.DwgRefIdeal.τ).loc Cert.DwgRefIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)) (v3 : (c : Dev Cert.UpIdeal.nD) → Buf (Elt Ideal) ((c.tc : Thread Cert.UpIdeal.nD Cert.UpIdeal.τ).loc Cert.UpIdeal.main_v2_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_v2_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v20) = v0 c
          ∧ r.2.mem ((c.tc : Thread Cert.UpRefIdeal.nD Cert.UpRefIdeal.τ).loc Cert.UpRefIdeal.main_v21) = v1 c
          ∧ r.2.mem ((c.tc : Thread Cert.UpRefIdeal.nD Cert.UpRefIdeal.τ).loc Cert.UpRefIdeal.main_v22) = v2 c
          ∧ r.2.mem ((c.tc : Thread Cert.UpRefIdeal.nD Cert.UpRefIdeal.τ).loc Cert.UpRefIdeal.main_v23) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v1_0)) (v1 : (c : Dev Cert.MixInIdeal.nD) → Buf (Elt Ideal) ((c.tc : Thread Cert.MixInIdeal.nD Cert.MixInIdeal.τ).loc Cert.MixInIdeal.main_v1_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v1_0) = v0 c
          ∧ r.2.mem ((c.tc : Thread Cert.MixInIdeal.nD Cert.MixInIdeal.τ).loc Cert.MixInIdeal.main_v1_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v12) = v0 c
          ∧ r.2.mem ((c.tc : Thread Cert.MixInRefIdeal.nD Cert.MixInRefIdeal.τ).loc Cert.MixInRefIdeal.main_v13) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v18) = v0 c
          ∧ r.2.mem ((c.tc : Thread Cert.LossHeadRefIdeal.nD Cert.LossHeadRefIdeal.τ).loc Cert.LossHeadRefIdeal.main_v19) = v1 c
          ∧ r.2.mem ((c.tc : Thread Cert.LossHeadRefIdeal.nD Cert.LossHeadRefIdeal.τ).loc Cert.LossHeadRefIdeal.main_v23) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v10_0)) (v1 : (c : Dev Cert.DactIdeal.nD) → Buf (Elt Ideal) ((c.tc : Thread Cert.DactIdeal.nD Cert.DactIdeal.τ).loc Cert.DactIdeal.main_v10_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v10_0) = v0 c
          ∧ r.2.mem ((c.tc : Thread Cert.DactIdeal.nD Cert.DactIdeal.τ).loc Cert.DactIdeal.main_v10_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v12) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dycat_DycatIdeal : Prop :=
  True

def algebraic_DycatIdeal_DycatRefIdeal [hDycatIdeal : Cert.DycatIdeal.Facts] [hDycatRefIdeal : Cert.DycatRefIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatRefIdeal.nD Cert.DycatRefIdeal.τ Cert.DycatRefIdeal.sig) → Buf (Elt Ideal) ℓ) (g' : Dev Cert.DycatRefIdeal.nD → PrngReg), Pre_DycatIdeal m →
    (∀ c : Dev Cert.DycatIdeal.nD,
      m' ((c.tc : Thread Cert.DycatRefIdeal.nD Cert.DycatRefIdeal.τ).loc Cert.DycatRefIdeal.main_arg0) = m ((c.tc : Thread Cert.DycatIdeal.nD Cert.DycatIdeal.τ).loc Cert.DycatIdeal.main_arg0)
      ∧ m' ((c.tc : Thread Cert.DycatRefIdeal.nD Cert.DycatRefIdeal.τ).loc Cert.DycatRefIdeal.main_arg1) = m ((c.tc : Thread Cert.DycatIdeal.nD Cert.DycatIdeal.τ).loc Cert.DycatIdeal.main_arg1)
      ∧ m' ((c.tc : Thread Cert.DycatRefIdeal.nD Cert.DycatRefIdeal.τ).loc Cert.DycatRefIdeal.main_arg2) = m ((c.tc : Thread Cert.DycatIdeal.nD Cert.DycatIdeal.τ).loc Cert.DycatIdeal.main_arg2)) →
    ∃ (v0 : (c : Dev Cert.DycatIdeal.nD) → Buf (Elt Ideal) ((c.tc : Thread Cert.DycatIdeal.nD Cert.DycatIdeal.τ).loc Cert.DycatIdeal.main_v2_0)) (v1 : (c : Dev Cert.DycatIdeal.nD) → Buf (Elt Ideal) ((c.tc : Thread Cert.DycatIdeal.nD Cert.DycatIdeal.τ).loc Cert.DycatIdeal.main_v2_1)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v2_0) = v0 c
          ∧ r.2.mem ((c.tc : Thread Cert.DycatIdeal.nD Cert.DycatIdeal.τ).loc Cert.DycatIdeal.main_v2_1) = v1 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
          ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ θ_run (Cert.DycatRefIdeal.defs (F := Ideal)) (onTc (τ := Cert.DycatRefIdeal.τ) (Cert.DycatRefIdeal.main (F := Ideal))) ⟨m', fun _ => 0, g'⟩ (fun r => ∀ c : Dev Cert.DycatRefIdeal.nD,
          r.2.mem ((c.tc : Thread Cert.DycatRefIdeal.nD Cert.DycatRefIdeal.τ).loc Cert.DycatRefIdeal.main_v1) = v0 c
          ∧ r.2.mem ((c.tc : Thread Cert.DycatRefIdeal.nD Cert.DycatRefIdeal.τ).loc Cert.DycatRefIdeal.main_v2) = v1 c
          ∧ r.2.mem ((c.tc : Thread Cert.DycatRefIdeal.nD Cert.DycatRefIdeal.τ).loc Cert.DycatRefIdeal.main_arg0) = m' ((c.tc : Thread Cert.DycatRefIdeal.nD Cert.DycatRefIdeal.τ).loc Cert.DycatRefIdeal.main_arg0)
          ∧ r.2.mem ((c.tc : Thread Cert.DycatRefIdeal.nD Cert.DycatRefIdeal.τ).loc Cert.DycatRefIdeal.main_arg1) = m' ((c.tc : Thread Cert.DycatRefIdeal.nD Cert.DycatRefIdeal.τ).loc Cert.DycatRefIdeal.main_arg1)
          ∧ r.2.mem ((c.tc : Thread Cert.DycatRefIdeal.nD Cert.DycatRefIdeal.τ).loc Cert.DycatRefIdeal.main_arg2) = m' ((c.tc : Thread Cert.DycatRefIdeal.nD Cert.DycatRefIdeal.τ).loc Cert.DycatRefIdeal.main_arg2))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)
      ∧ m' ((c.tc : Thread Cert.DwdRefIdeal.nD Cert.DwdRefIdeal.τ).loc Cert.DwdRefIdeal.main_arg2) = m ((c.tc : Thread Cert.DwdIdeal.nD Cert.DwdIdeal.τ).loc Cert.DwdIdeal.main_arg2)) →
    ∃ (v0 : (c : Dev Cert.DwdIdeal.nD) → Buf (Elt Ideal) ((c.tc : Thread Cert.DwdIdeal.nD Cert.DwdIdeal.τ).loc Cert.DwdIdeal.main_v2)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v2) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v7) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)
          ∧ r.2.mem ((c.tc : Thread Cert.DwdRefIdeal.nD Cert.DwdRefIdeal.τ).loc Cert.DwdRefIdeal.main_arg2) = m' ((c.tc : Thread Cert.DwdRefIdeal.nD Cert.DwdRefIdeal.τ).loc Cert.DwdRefIdeal.main_arg2))

def preserves_Dwg_DwgIdeal : Prop :=
  True

def algebraic_DwgIdeal_DwgRefIdeal [hDwgIdeal : Cert.DwgIdeal.Facts] [hDwgRefIdeal : Cert.DwgRefIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgRefIdeal.nD Cert.DwgRefIdeal.τ Cert.DwgRefIdeal.sig) → Buf (Elt Ideal) ℓ) (g' : Dev Cert.DwgRefIdeal.nD → PrngReg), Pre_DwgIdeal m →
    (∀ c : Dev Cert.DwgIdeal.nD,
      m' ((c.tc : Thread Cert.DwgRefIdeal.nD Cert.DwgRefIdeal.τ).loc Cert.DwgRefIdeal.main_arg0) = m ((c.tc : Thread Cert.DwgIdeal.nD Cert.DwgIdeal.τ).loc Cert.DwgIdeal.main_arg0)
      ∧ m' ((c.tc : Thread Cert.DwgRefIdeal.nD Cert.DwgRefIdeal.τ).loc Cert.DwgRefIdeal.main_arg1) = m ((c.tc : Thread Cert.DwgIdeal.nD Cert.DwgIdeal.τ).loc Cert.DwgIdeal.main_arg1)
      ∧ m' ((c.tc : Thread Cert.DwgRefIdeal.nD Cert.DwgRefIdeal.τ).loc Cert.DwgRefIdeal.main_arg2) = m ((c.tc : Thread Cert.DwgIdeal.nD Cert.DwgIdeal.τ).loc Cert.DwgIdeal.main_arg2)) →
    ∃ (v0 : (c : Dev Cert.DwgIdeal.nD) → Buf (Elt Ideal) ((c.tc : Thread Cert.DwgIdeal.nD Cert.DwgIdeal.τ).loc Cert.DwgIdeal.main_v2)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v2) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1)
          ∧ r.2.mem ((c.tc : Thread Cert.DwgIdeal.nD Cert.DwgIdeal.τ).loc Cert.DwgIdeal.main_arg2) = m ((c.tc : Thread Cert.DwgIdeal.nD Cert.DwgIdeal.τ).loc Cert.DwgIdeal.main_arg2))
      ∧ θ_run (Cert.DwgRefIdeal.defs (F := Ideal)) (onTc (τ := Cert.DwgRefIdeal.τ) (Cert.DwgRefIdeal.main (F := Ideal))) ⟨m', fun _ => 0, g'⟩ (fun r => ∀ c : Dev Cert.DwgRefIdeal.nD,
          r.2.mem ((c.tc : Thread Cert.DwgRefIdeal.nD Cert.DwgRefIdeal.τ).loc Cert.DwgRefIdeal.main_v3) = v0 c
          ∧ r.2.mem ((c.tc : Thread Cert.DwgRefIdeal.nD Cert.DwgRefIdeal.τ).loc Cert.DwgRefIdeal.main_arg0) = m' ((c.tc : Thread Cert.DwgRefIdeal.nD Cert.DwgRefIdeal.τ).loc Cert.DwgRefIdeal.main_arg0)
          ∧ r.2.mem ((c.tc : Thread Cert.DwgRefIdeal.nD Cert.DwgRefIdeal.τ).loc Cert.DwgRefIdeal.main_arg1) = m' ((c.tc : Thread Cert.DwgRefIdeal.nD Cert.DwgRefIdeal.τ).loc Cert.DwgRefIdeal.main_arg1)
          ∧ r.2.mem ((c.tc : Thread Cert.DwgRefIdeal.nD Cert.DwgRefIdeal.τ).loc Cert.DwgRefIdeal.main_arg2) = m' ((c.tc : Thread Cert.DwgRefIdeal.nD Cert.DwgRefIdeal.τ).loc Cert.DwgRefIdeal.main_arg2))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v3) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)) →
    ∃ (v0 : (c : Dev Cert.DwinIdeal.nD) → Buf (Elt Ideal) ((c.tc : Thread Cert.DwinIdeal.nD Cert.DwinIdeal.τ).loc Cert.DwinIdeal.main_v2)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v2) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v3) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v16)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v16) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v36) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def Claim : Prop :=
  ∃ (hUp : Cert.Up.Facts) (hUpIdeal : Cert.UpIdeal.Facts) (hUpRefIdeal : Cert.UpRefIdeal.Facts) (hMixIn : Cert.MixIn.Facts) (hMixInIdeal : Cert.MixInIdeal.Facts) (hMixInRefIdeal : Cert.MixInRefIdeal.Facts) (hDown : Cert.Down.Facts) (hDownIdeal : Cert.DownIdeal.Facts) (hDownRefIdeal : Cert.DownRefIdeal.Facts) (hLossHead : Cert.LossHead.Facts) (hLossHeadIdeal : Cert.LossHeadIdeal.Facts) (hLossHeadRefIdeal : Cert.LossHeadRefIdeal.Facts) (hMixOut : Cert.MixOut.Facts) (hMixOutIdeal : Cert.MixOutIdeal.Facts) (hMixOutRefIdeal : Cert.MixOutRefIdeal.Facts) (hDact : Cert.Dact.Facts) (hDactIdeal : Cert.DactIdeal.Facts) (hDactRefIdeal : Cert.DactRefIdeal.Facts) (hDycat : Cert.Dycat.Facts) (hDycatIdeal : Cert.DycatIdeal.Facts) (hDycatRefIdeal : Cert.DycatRefIdeal.Facts) (hDwd : Cert.Dwd.Facts) (hDwdIdeal : Cert.DwdIdeal.Facts) (hDwdRefIdeal : Cert.DwdRefIdeal.Facts) (hDwg : Cert.Dwg.Facts) (hDwgIdeal : Cert.DwgIdeal.Facts) (hDwgRefIdeal : Cert.DwgRefIdeal.Facts) (hDwout : Cert.Dwout.Facts) (hDwoutIdeal : Cert.DwoutIdeal.Facts) (hDwoutRefIdeal : Cert.DwoutRefIdeal.Facts) (hDwin : Cert.Dwin.Facts) (hDwinIdeal : Cert.DwinIdeal.Facts) (hDwinRefIdeal : Cert.DwinRefIdeal.Facts) (hPrep : Cert.Prep.Facts) (hPrepIdeal : Cert.PrepIdeal.Facts) (hPrepRefIdeal : Cert.PrepRefIdeal.Facts) (hAdam : Cert.Adam.Facts) (hAdamIdeal : Cert.AdamIdeal.Facts) (hAdamRefIdeal : Cert.AdamRefIdeal.Facts) (hSlots : Cert.Slots.Facts) (hSlotsIdeal : Cert.SlotsIdeal.Facts) (hSlotsRefIdeal : Cert.SlotsRefIdeal.Facts) (hPre_up_finite : Cert.Pre_up_finite.Facts) (hPre_dact_finite : Cert.Pre_dact_finite.Facts) (hPre_prep_finite : Cert.Pre_prep_finite.Facts),
    quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_MixIn (hMixIn := hMixIn)
    ∧ quiescent_MixInIdeal (hMixInIdeal := hMixInIdeal)
    ∧ quiescent_MixInRefIdeal (hMixInRefIdeal := hMixInRefIdeal)
    ∧ quiescent_Down (hDown := hDown)
    ∧ quiescent_DownIdeal (hDownIdeal := hDownIdeal)
    ∧ quiescent_DownRefIdeal (hDownRefIdeal := hDownRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Dycat (hDycat := hDycat)
    ∧ quiescent_DycatIdeal (hDycatIdeal := hDycatIdeal)
    ∧ quiescent_DycatRefIdeal (hDycatRefIdeal := hDycatRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dwg (hDwg := hDwg)
    ∧ quiescent_DwgIdeal (hDwgIdeal := hDwgIdeal)
    ∧ quiescent_DwgRefIdeal (hDwgRefIdeal := hDwgRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Adam (hAdam := hAdam)
    ∧ quiescent_AdamIdeal (hAdamIdeal := hAdamIdeal)
    ∧ quiescent_AdamRefIdeal (hAdamRefIdeal := hAdamRefIdeal)
    ∧ quiescent_Slots (hSlots := hSlots)
    ∧ quiescent_SlotsIdeal (hSlotsIdeal := hSlotsIdeal)
    ∧ quiescent_SlotsRefIdeal (hSlotsRefIdeal := hSlotsRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_MixIn_MixInIdeal
    ∧ algebraic_MixInIdeal_MixInRefIdeal (hMixInIdeal := hMixInIdeal) (hMixInRefIdeal := hMixInRefIdeal)
    ∧ preserves_Down_DownIdeal
    ∧ algebraic_DownIdeal_DownRefIdeal (hDownIdeal := hDownIdeal) (hDownRefIdeal := hDownRefIdeal)
    ∧ preserves_LossHead_LossHeadIdeal
    ∧ algebraic_LossHeadIdeal_LossHeadRefIdeal (hLossHeadIdeal := hLossHeadIdeal) (hLossHeadRefIdeal := hLossHeadRefIdeal)
    ∧ preserves_MixOut_MixOutIdeal
    ∧ algebraic_MixOutIdeal_MixOutRefIdeal (hMixOutIdeal := hMixOutIdeal) (hMixOutRefIdeal := hMixOutRefIdeal)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Dycat_DycatIdeal
    ∧ algebraic_DycatIdeal_DycatRefIdeal (hDycatIdeal := hDycatIdeal) (hDycatRefIdeal := hDycatRefIdeal)
    ∧ preserves_Dwd_DwdIdeal
    ∧ algebraic_DwdIdeal_DwdRefIdeal (hDwdIdeal := hDwdIdeal) (hDwdRefIdeal := hDwdRefIdeal)
    ∧ preserves_Dwg_DwgIdeal
    ∧ algebraic_DwgIdeal_DwgRefIdeal (hDwgIdeal := hDwgIdeal) (hDwgRefIdeal := hDwgRefIdeal)
    ∧ preserves_Dwout_DwoutIdeal
    ∧ algebraic_DwoutIdeal_DwoutRefIdeal (hDwoutIdeal := hDwoutIdeal) (hDwoutRefIdeal := hDwoutRefIdeal)
    ∧ preserves_Dwin_DwinIdeal
    ∧ algebraic_DwinIdeal_DwinRefIdeal (hDwinIdeal := hDwinIdeal) (hDwinRefIdeal := hDwinRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Adam_AdamIdeal
    ∧ algebraic_AdamIdeal_AdamRefIdeal (hAdamIdeal := hAdamIdeal) (hAdamRefIdeal := hAdamRefIdeal)
    ∧ preserves_Slots_SlotsIdeal
    ∧ algebraic_SlotsIdeal_SlotsRefIdeal (hSlotsIdeal := hSlotsIdeal) (hSlotsRefIdeal := hSlotsRefIdeal)
-- ==== Pre_dact_finite.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x5632 .f32) (main_arg1 : FVec F S8192x5632 .f32) (main_arg2 : FVec F S5632x2048 .f32) (main_arg3 : FVec F S8192x2048 .f32) : IVec S_ 1 :=
  let main_v0 : FVec F S8192x5632 .f32 := subf main_arg0 main_arg0
  let main_cst : FVec F S_ .f32 := constant S_ .f32 0x00000000#32
  let main_v1 : FVec F S8192x5632 .f32 := broadcastInDim S8192x5632 ![] bcast_S_S8192x5632 main_cst
  let main_v2 : IVec S8192x5632 1 := cmpf .oeq main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x5632 .f32 := subf main_arg1 main_arg1
  let main_cst_0 : FVec F S_ .f32 := constant S_ .f32 0x00000000#32
  let main_v5 : FVec F S8192x5632 .f32 := broadcastInDim S8192x5632 ![] bcast_S_S8192x5632 main_cst_0
  let main_v6 : IVec S8192x5632 1 := cmpf .oeq main_v4 main_v5
  let main_c_1 : IVec S_ 1 := constantI S_ 1 1#1
  let main_v7 : IVec S_ 1 := (fun x v => Host.reduce IntOp.andi x v reducesTo_S8192x5632_S_d0_1 h_S_) main_v6 main_c_1
  let main_v8 : IVec S_ 1 := andi main_v3 main_v7
  let main_v9 : FVec F S5632x2048 .f32 := subf main_arg2 main_arg2
  let main_cst_2 : FVec F S_ .f32 := constant S_ .f32 0x00000000#32
  let main_v10 : FVec F S5632x2048 .f32 := broadcastInDim S5632x2048 ![] bcast_S_S5632x2048 main_cst_2
  let main_v11 : IVec S5632x2048 1 := cmpf .oeq main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S8192x2048 .f32 := subf main_arg3 main_arg3
  let main_cst_4 : FVec F S_ .f32 := constant S_ .f32 0x00000000#32
  let main_v15 : FVec F S8192x2048 .f32 := broadcastInDim S8192x2048 ![] bcast_S_S8192x2048 main_cst_4
  let main_v16 : IVec S8192x2048 1 := cmpf .oeq main_v14 main_v15
  fn_part1 (F := F) main_v13 main_v16
-- ==== Pre_prep_finite.lean ====
abbrev S8192x5120 : Shape := ⟨2, ![8192, 5120]⟩
abbrev S1x64 : Shape := ⟨2, ![1, 64]⟩
abbrev S8192x2048 : Shape := ⟨2, ![8192, 2048]⟩
abbrev S_ : Shape := ⟨0, ![]⟩

class Facts : Prop where
  slices_S8192x5120_S8192x2048_0_2048 : S8192x5120.Slices ![0, 2048] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x5120 .f32) (main_arg1 : FVec F S1x64 .f32) (main_arg2 : FVec F S1x64 .f32) : IVec S_ 1 :=
  let main_v0 : FVec F S8192x2048 .f32 := (extractStridedSlice S8192x2048 ![0, 2048] · slices_S8192x5120_S8192x2048_0_2048) main_arg0
  let main_v1 : FVec F S8192x2048 .f32 := subf main_v0 main_v0
  let main_cst : FVec F S_ .f32 := constant S_ .f32 0x00000000#32
  let main_v2 : FVec F S8192x2048 .f32 := broadcastInDim S8192x2048 ![] bcast_S_S8192x2048 main_cst
  let main_v3 : IVec S8192x2048 1 := cmpf .oeq main_v1 main_v2
  let main_c : IVec S_ 1 := constantI S_ 1 1#1
  let main_v4 : IVec S_ 1 := (fun x v => Host.reduce IntOp.andi x v reducesTo_S8192x2048_S_d0_1 h_S_) main_v3 main_c
  main_v4
-- ==== Pre_up_finite.lean ====
abbrev S8192x2048 : Shape := ⟨2, ![8192, 2048]⟩
abbrev S1x2048 : Shape := ⟨2, ![1, 2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S8192x2048 .f32) (main_arg1 : FVec F S1x2048 .f32) (main_arg2 : FVec F S2048x5632 .f32) (main_arg3 : FVec F S2048x5632 .f32) : IVec S_ 1 :=
  let main_v0 : FVec F S8192x2048 .f32 := subf main_arg0 main_arg0
  let main_cst : FVec F S_ .f32 := constant S_ .f32 0x00000000#32
  let main_v1 : FVec F S8192x2048 .f32 := broadcastInDim S8192x2048 ![] bcast_S_S8192x2048 main_cst
  let main_v2 : IVec S8192x2048 1 := cmpf .oeq main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := subf main_arg1 main_arg1
  let main_cst_0 : FVec F S_ .f32 := constant S_ .f32 0x00000000#32
  let main_v5 : FVec F S1x2048 .f32 := broadcastInDim S1x2048 ![] bcast_S_S1x2048 main_cst_0
  let main_v6 : IVec S1x2048 1 := cmpf .oeq main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x5632 .f32 := subf main_arg2 main_arg2
  let main_cst_2 : FVec F S_ .f32 := constant S_ .f32 0x00000000#32
  let main_v10 : FVec F S2048x5632 .f32 := broadcastInDim S2048x5632 ![] bcast_S_S2048x5632 main_cst_2
  let main_v11 : IVec S2048x5632 1 := cmpf .oeq main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := subf main_arg3 main_arg3
  let main_cst_4 : FVec F S_ .f32 := constant S_ .f32 0x00000000#32
  let main_v15 : FVec F S2048x5632 .f32 := broadcastInDim S2048x5632 ![] bcast_S_S2048x5632 main_cst_4
  let main_v16 : IVec S2048x5632 1 := cmpf .oeq main_v14 main_v15
  fn_part1 (F := F) main_v13 main_v16
-- ==== Up.lean ====
abbrev S8192x2048 : Shape := ⟨2, ![8192, 2048]⟩
abbrev S1x2048 : Shape := ⟨2, ![1, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S16x2048 : Shape := ⟨2, ![16, 2048]⟩
abbrev S16 : Shape := ⟨1, ![16]⟩
abbrev S16x1 : Shape := ⟨2, ![16, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .hbm, ⟨6, _⟩ => ⟨S8192x2048, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x2048, .bf16⟩
  | .local _ .vmem, ⟨8, _⟩ => ⟨S1024x2048, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x2048 : Shape := ⟨2, ![8192, 2048]⟩
abbrev S1x2048 : Shape := ⟨2, ![1, 2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x2048, .bf16⟩
  | .hbm, ⟨44, _⟩ => ⟨S8192x5632, .bf16⟩
  | .hbm, ⟨45, _⟩ => ⟨S8192x5632, .bf16⟩
  | .hbm, ⟨46, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v14_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v14_1 : Ref sig .tc := ⟨.hbm, 32, rfl⟩
abbrev main_v14_0 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== MixIn.lean ====
abbrev S8192x2048 : Shape := ⟨2, ![8192, 2048]⟩
abbrev S1x2048 : Shape := ⟨2, ![1, 2048]⟩
abbrev S2048x5120 : Shape := ⟨2, ![2048, 5120]⟩
abbrev S8192x5120 : Shape := ⟨2, ![8192, 5120]⟩
abbrev S1024x2048 : Shape := ⟨2, ![1024, 2048]⟩
abbrev S2048x512 : Shape := ⟨2, ![2048, 512]⟩
abbrev S1024x512 : Shape := ⟨2, ![1024, 512]⟩
abbrev S16x2048 : Shape := ⟨2, ![16, 2048]⟩
abbrev S16 : Shape := ⟨1, ![16]⟩
abbrev S16x1 : Shape := ⟨2, ![16, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5120, .f32⟩
  | .hbm, ⟨3, _⟩ => ⟨S2048x5120, .bf16⟩
  | .hbm, ⟨4, _⟩ => ⟨S8192x2048, .bf16⟩
  | .hbm, ⟨5, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x2048, .bf16⟩
  | .local _ .vmem, ⟨6, _⟩ => ⟨S1024x2048, .bf16⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixInRefIdeal.lean ====
abbrev S8192x2048 : Shape := ⟨2, ![8192, 2048]⟩
abbrev S1x2048 : Shape := ⟨2, ![1, 2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5120, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x1408 : Shape := ⟨2, ![512, 1408]⟩
abbrev S1408x2048 : Shape := ⟨2, ![1408, 2048]⟩
abbrev S512x2048 : Shape := ⟨2, ![512, 2048]⟩
abbrev S16x2048 : Shape := ⟨2, ![16, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== LossHead.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S16x2048 : Shape := ⟨2, ![16, 2048]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x5632, .bf16⟩
  | .hbm, ⟨5, _⟩ => ⟨S5632x2048, .bf16⟩
  | .hbm, ⟨6, _⟩ => ⟨S8192x2048, .f32⟩
  | .hbm, ⟨7, _⟩ => ⟨S8192x2048, .bf16⟩
  | .hbm, ⟨8, _⟩ => ⟨S1x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_395 : BitVec 32 := 0#32
  let v529 : BitVec 1 := Scalar.cmpi .eq arg0 c0_i32_395
  let v530 : BitVec 32 := Scalar.extui v529
  let c0_i32_396 : BitVec 32 := 0#32
  let v531 : BitVec 1 := Scalar.cmpi .ne v530 c0_i32_396
  v531

def k0_cond4 (i : grid0.Coords) : BitVec 1 :=
  let arg0 : BitVec 32 := BitVec.ofNat 32 (i 0).val
  let c0_i32_397 : BitVec 32 := 0#32
  let v532 : BitVec 1 := Scalar.cmpi .sgt arg0 c0_i32_397
  let v533 : BitVec 32 := Scalar.extui v532
  let c0_i32_398 : BitVec 32 := 0#32
  let v534 : BitVec 1 := Scalar.cmpi .ne v533 c0_i32_398
  v534

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LossHeadRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S8192 : Shape := ⟨1, ![8192]⟩
abbrev S2048 : Shape := ⟨1, ![2048]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x2048, .f32⟩
  | .hbm, ⟨31, _⟩ => ⟨S8192x2048, .f32⟩
  | .hbm, ⟨32, _⟩ => ⟨S8192x2048, .bf16⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S512x1024 : Shape := ⟨2, ![512, 1024]⟩
abbrev S1024x2048 : Shape := ⟨2, ![1024, 2048]⟩
abbrev S512x2048 : Shape := ⟨2, ![512, 2048]⟩
abbrev S16x2048 : Shape := ⟨2, ![16, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MixOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dact.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 32
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .bf16⟩
  | .hbm, ⟨27, _⟩ => ⟨S5632x2048, .bf16⟩
  | .hbm, ⟨28, _⟩ => ⟨S8192x5632, .bf16⟩
  | .hbm, ⟨29, _⟩ => ⟨S8192x5632, .bf16⟩
  | .hbm, ⟨30, _⟩ => ⟨S8192x5632, .bf16⟩
  | .hbm, ⟨31, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .bf16⟩
  | .hbm, ⟨33, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Dycat.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .hbm, ⟨6, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DycatRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwd.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1024x2048 : Shape := ⟨2, ![1024, 2048]⟩
abbrev S1408x2048 : Shape := ⟨2, ![1408, 2048]⟩
abbrev S512x2048 : Shape := ⟨2, ![512, 2048]⟩
abbrev S1024x512 : Shape := ⟨2, ![1024, 512]⟩
abbrev S384x2048 : Shape := ⟨2, ![384, 2048]⟩
abbrev S1024x384 : Shape := ⟨2, ![1024, 384]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_24 : BitVec 32 := 0#32
  let v35 : BitVec 1 := Scalar.cmpi .ne v34 c0_i32_24
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S2048x5632 : Shape := ⟨2, ![2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dwg.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S1024x1408 : Shape := ⟨2, ![1024, 1408]⟩
abbrev S2048x1408 : Shape := ⟨2, ![2048, 1408]⟩
abbrev S512x1408 : Shape := ⟨2, ![512, 1408]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgRefIdeal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwout.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwin.lean ====
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S1024x1280 : Shape := ⟨2, ![1024, 1280]⟩
abbrev S2048x1280 : Shape := ⟨2, ![2048, 1280]⟩
abbrev S512x1280 : Shape := ⟨2, ![512, 1280]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x2048, .bf16⟩
  | .hbm, ⟨4, _⟩ => ⟨S8192x5120, .bf16⟩
  | .hbm, ⟨5, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2048x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8192x2048 : Shape := ⟨2, ![8192, 2048]⟩
abbrev S2048x5120 : Shape := ⟨2, ![2048, 5120]⟩
abbrev S8192x5120 : Shape := ⟨2, ![8192, 5120]⟩
abbrev S5120x2048 : Shape := ⟨2, ![5120, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x5120, .f32⟩
  | .hbm, ⟨4, _⟩ => ⟨S5120x2048, .f32⟩
  | .hbm, ⟨5, _⟩ => ⟨S2048x5120, .f32⟩
  | .hbm, ⟨6, _⟩ => ⟨S2048x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Prep.lean ====
abbrev S8192x5120 : Shape := ⟨2, ![8192, 5120]⟩
abbrev S1x64 : Shape := ⟨2, ![1, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S8192x3072 : Shape := ⟨2, ![8192, 3072]⟩
abbrev S256x1024 : Shape := ⟨2, ![256, 1024]⟩
abbrev S256x3072 : Shape := ⟨2, ![256, 3072]⟩
abbrev S256x128 : Shape := ⟨2, ![256, 128]⟩

abbrev nBuf : Space → Nat
  | .hbm => 38
  | .vmem => 11
  | .smem => 0
  | _ => 0

abbrev bufTy : (tb : Table) → Fin (tcTables nBuf tb) → BufTy
  | .hbm, ⟨0, _⟩ => ⟨S8192x5120, .f32⟩
  | .hbm, ⟨1, _⟩ => ⟨S1x64, .f32⟩
  | .hbm, ⟨2, _⟩ => ⟨S1x64, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S1x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S128x128, .bf16⟩
  | .hbm, ⟨28, _⟩ => ⟨S1x1x1x64, .f32⟩
  | .hbm, ⟨29, _⟩ => ⟨S1x1x16x64, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1x1x64, .f32⟩
  | .hbm, ⟨35, _⟩ => ⟨S1x1x16x64, .f32⟩
  | .hbm, ⟨36, _⟩ => ⟨S1x1024, .f32⟩
  | .hbm, ⟨37, _⟩ => ⟨S8192x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S128x128, .bf16⟩
  | .local _ .vmem, ⟨9, _⟩ => ⟨S256x3072, .f32⟩
  | .local _ .vmem, ⟨10, _⟩ => ⟨S256x3072, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepRefIdeal.lean ====
abbrev S8192x5120 : Shape := ⟨2, ![8192, 5120]⟩
abbrev S1x64 : Shape := ⟨2, ![1, 64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S8192x2048 : Shape := ⟨2, ![8192, 2048]⟩
abbrev S8192x3072 : Shape := ⟨2, ![8192, 3072]⟩

abbrev nBuf : Space → Nat
  | .hbm => 47
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1x64, .f32⟩
  | .hbm, ⟨2, _⟩ => ⟨S1x64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x64, .f32⟩
  | .hbm, ⟨19, _⟩ => ⟨S8192x16x64, .f32⟩
  | .hbm, ⟨20, _⟩ => ⟨S1x1x64, .f32⟩
  | .hbm, ⟨21, _⟩ => ⟨S8192x16x64, .f32⟩
  | .hbm, ⟨22, _⟩ => ⟨S8192x16x64, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x16x64, .f32⟩
  | .hbm, ⟨28, _⟩ => ⟨S8192x16x64, .f32⟩
  | .hbm, ⟨29, _⟩ => ⟨S_, .f32⟩
  | .hbm, ⟨30, _⟩ => ⟨S8192x16, .f32⟩
  | .hbm, ⟨31, _⟩ => ⟨S8192x16x1, .f32⟩
  | .hbm, ⟨32, _⟩ => ⟨S_, .f32⟩
  | .hbm, ⟨33, _⟩ => ⟨S8192x16x1, .f32⟩
  | .hbm, ⟨34, _⟩ => ⟨S8192x16x1, .f32⟩
  | .hbm, ⟨35, _⟩ => ⟨S_, .f32⟩
  | .hbm, ⟨36, _⟩ => ⟨S8192x16x1, .f32⟩
  | .hbm, ⟨37, _⟩ => ⟨S8192x16x1, .f32⟩
  | .hbm, ⟨38, _⟩ => ⟨S8192x16x1, .f32⟩
  | .hbm, ⟨39, _⟩ => ⟨S8192x16x64, .f32⟩
  | .hbm, ⟨40, _⟩ => ⟨S8192x16x64, .f32⟩
  | .hbm, ⟨41, _⟩ => ⟨S1x1x64, .f32⟩
  | .hbm, ⟨42, _⟩ => ⟨S8192x16x64, .f32⟩
  | .hbm, ⟨43, _⟩ => ⟨S8192x16x64, .f32⟩
  | .hbm, ⟨44, _⟩ => ⟨S8192x1024, .f32⟩
  | .hbm, ⟨45, _⟩ => ⟨S8192x2048, .f32⟩
  | .hbm, ⟨46, _⟩ => ⟨S8192x3072, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Adam.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Slots.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SlotsRefIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.UpRun.lean ====
module

public import proofs.«01_k».proof.Proof.Gen.UpIdeal.Frame
public import proofs.«01_k».proof.Proof.Gen.UpIdeal.Skeleton

@[expose] public section

set_option maxRecDepth 16384

noncomputable section

/-! The two ways the body of the first projection runs. At the first point of a block of rows (`first`) it
normalises the block, strip by strip, into the scratch and the first result, then multiplies; at the other
points it only multiplies, on what the scratch holds. -/

namespace Cert.Proof.Up

open Cert.UpIdeal Cert.UpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The point starts a block of rows. -/
abbrev starts (i : grid0.Coords) : Prop := k0_cond1 i = 1#1

/-- A buffer with a list of stores written into it, over anything. -/
abbrev written {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)
  (x0 : Vec F S1024x2048 .f32) (x1 : Vec F S1x2048 .f32) (x2 x3 : Vec F S2048x512 .bf16)

set_option maxHeartbeats 3000000 in
/-- A point that starts a block of rows: the stores into the four results and the scratch, with the body's triple. -/
noncomputable def runA (hc : starts i) :
    Σ' (L4 : List (View.Piece (Elt F) S1024x2048 .bf16)) (L5 L6 L7 : List (View.Piece (Elt F) S1024x512 .bf16)),
      { LS : List (View.Piece (Elt F) S1024x2048 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ written c arg6 L4 ∗ written c arg7 L5 ∗ written c arg8 L6 ∗ written c arg9 L7 ∗ written c arg10 LS) -∗ K ⟨⟩))
          ⊢ wp frame (wpE (defs₀ (F := F)) Variants.none c none) E (cc0_ffn2_up i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_ffn2_up_eq_skeleton]; unfold cc0_ffn2_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS

set_option maxHeartbeats 1000000 in
/-- Any other point: the stores into the three products, the first result and the scratch left as they were. -/
noncomputable def runB (hc : ¬starts i) (xs : Vec F S1024x2048 .bf16) :
    Σ' (L5 L6 : List (View.Piece (Elt F) S1024x512 .bf16)),
      { L7 : List (View.Piece (Elt F) S1024x512 .bf16) // ∀ (x4 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ written c arg7 L5 ∗ written c arg8 L6 ∗ written c arg9 L7 ∗ owns (c : Thread nD τ) arg10 fullShare xs) -∗ K ⟨⟩))
          ⊢ wp frame (wpE (defs₀ (F := F)) Variants.none c none) E (cc0_ffn2_up i arg2 harg2 arg3 harg3 arg4 harg4 arg5 harg5 arg6 harg6 arg7 harg7 arg8 harg8 arg9 harg9 arg10 harg10) K } := by
  refine ⟨?_, ?_, ?_, fun x4 E K => ?run⟩
  case run =>
    simp only [cc0_ffn2_up_eq_skeleton]; unfold cc0_ffn2_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg10.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS

end Cert.Proof.Up

end
-- ==== Proof.UpCover.lean ====
module

public import proofs.«01_k».proof.Proof.UpRun

@[expose] public section

set_option maxRecDepth 16384

noncomputable section

/-! Every result's buffer, and the scratch, is covered by what one run of the body stores into it. -/

namespace Cert.Proof.Up

open Cert.UpIdeal Cert.UpIdeal.Gen Idealize.ShloMosaic Idealize.ShloMosaic.TcCoe Idealize.ShloMosaic.Tactic

variable {F : FTy → Type} [FloatOps F]
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)
  (x0 : Vec F S1024x2048 .f32) (x1 : Vec F S1x2048 .f32) (x2 x3 : Vec F S2048x512 .bf16)

theorem coverS (hc : starts i) (y : S1024x2048.Idx) : ∃ p ∈ (runA (F := F) c i arg2 harg2 arg3 harg3 arg4 harg4 arg5 harg5 arg6 harg6 arg7 harg7 arg8 harg8 arg9 harg9 arg10 harg10 x0 x1 x2 x3 hc).2.2.2.2.1, y ∈ p.1.set :=
  View.cover_of_tiledL _ ![16, 2048] (by sl_kernel_rfl) y
theorem cover4 (hc : starts i) (y : S1024x2048.Idx) : ∃ p ∈ (runA (F := F) c i arg2 harg2 arg3 harg3 arg4 harg4 arg5 harg5 arg6 harg6 arg7 harg7 arg8 harg8 arg9 harg9 arg10 harg10 x0 x1 x2 x3 hc).1, y ∈ p.1.set :=
  View.cover_of_tiledL _ ![16, 2048] (by sl_kernel_rfl) y
theorem cover5 (hc : starts i) (y : S1024x512.Idx) : ∃ p ∈ (runA (F := F) c i arg2 harg2 arg3 harg3 arg4 harg4 arg5 harg5 arg6 harg6 arg7 harg7 arg8 harg8 arg9 harg9 arg10 harg10 x0 x1 x2 x3 hc).2.1, y ∈ p.1.set :=
  View.cover_of_tiledL _ ![1024, 512] (by sl_kernel_rfl) y
theorem cover6 (hc : starts i) (y : S1024x512.Idx) : ∃ p ∈ (runA (F := F) c i arg2 harg2 arg3 harg3 arg4 harg4 arg5 harg5 arg6 harg6 arg7 harg7 arg8 harg8 arg9 harg9 arg10 harg10 x0 x1 x2 x3 hc).2.2.1, y ∈ p.1.set :=
  View.cover_of_tiledL _ ![1024, 512] (by sl_kernel_rfl) y
theorem cover7 (hc : starts i) (y : S1024x512.Idx) : ∃ p ∈ (runA (F := F) c i arg2 harg2 arg3 harg3 arg4 harg4 arg5 harg5 arg6 harg6 arg7 harg7 arg8 harg8 arg9 harg9 arg10 harg10 x0 x1 x2 x3 hc).2.2.2.1, y ∈ p.1.set :=
  View.cover_of_tiledL _ ![1024, 512] (by sl_kernel_rfl) y
theorem coverB5 (hc : ¬starts i) (xs) (y : S1024x512.Idx) : ∃ p ∈ (runB (F := F) c i arg2 harg2 arg3 harg3 arg4 harg4 arg5 harg5 arg6 harg6 arg7 harg7 arg8 harg8 arg9 harg9 arg10 harg10 x0 x1 x2 x3 hc xs).1, y ∈ p.1.set :=
  View.cover_of_tiledL _ ![1024, 512] (by sl_kernel_rfl) y
theorem coverB6 (hc : ¬starts i) (xs) (y : S1024x512.Idx) : ∃ p ∈ (runB (F := F) c i arg2 harg2 arg3 harg3 arg4 harg4 arg5 harg5 arg6 harg6 arg7 harg7 arg8 harg8 arg9 harg9 arg10 harg10 x0 x1 x2 x3 hc xs).2.1, y ∈ p.1.set :=
  View.cover_of_tiledL _ ![1024, 512] (by sl_kernel_rfl) y
theorem coverB7 (hc : ¬starts i) (xs) (y : S1024x512.Idx) : ∃ p ∈ (runB (F := F) c i arg2 harg2 arg3 harg3 arg4 harg4 arg5 harg5 arg6 harg6 arg7 harg7 arg8 harg8 arg9 harg9 arg10 harg10 x0 x1 x2 x3 hc xs).2.2.1, y ∈ p.1.set :=
  View.cover_of_tiledL _ ![1024, 512] (by sl_kernel_rfl) y

end Cert.Proof.Up

end
-- ==== Proof.UpFrame.lean ====
module

public import proofs.«01_k».proof.Proof.UpCover
public import proofs.«01_k».proof.Proof.Gen.UpIdeal.Points
public import Idealize.ShloMosaic.Lib.Claim

@[expose] public section

set_option maxRecDepth 16384

noncomputable section

/-! The run of the kernel, with floats of any kind, and what it leaves named: the normalised rows and the three products. The rows are
normalised at the first of the 11 points of a block and carried, in the scratch and in the first result's buffer,
to the last of them. -/

namespace Cert.Proof.Up

open Cert.UpIdeal Cert.UpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The points that start a block of rows. -/
theorem starts_iff : ∀ t : Fin cfg0.N, starts (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [starts, k0_cond1, e0, e1]
    word_cmp
   : ∀ t : Fin grid0.N, starts (grid0.coords t) ↔ t.val % 11 = 0)

theorem idle_iff (t : Fin cfg0.N) : cfg0.idle 4 (grid0.coords t) = !decide (starts (grid0.coords t)) := rfl

/-- The point that started the block of rows of a point. -/
def first (t : Fin cfg0.N) : Fin cfg0.N := ⟨t.val - t.val % 11, Nat.lt_of_le_of_lt (Nat.sub_le _ _) t.isLt⟩

theorem first_self (t : Fin cfg0.N) (h : t.val % 11 = 0) : first t = t := Fin.ext (by simp only [first]; omega)

theorem first_pred (t : Fin cfg0.N) (h : ¬t.val % 11 = 0) (h' : t.val - 1 < cfg0.N) : first ⟨t.val - 1, h'⟩ = first t :=
  Fin.ext (by simp only [first]; omega)

/-- The body's run at a point that starts a block of rows, and at any other, on the point's own buffers and blocks. -/
abbrev atStart (t : Fin cfg0.N) (h : starts (grid0.coords t)) := runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (iblk m c 0 t) (iblk m c 1 t) (iblk m c 2 t) (iblk m c 3 t) h
abbrev atRest (t : Fin cfg0.N) (h : ¬starts (grid0.coords t)) (xs : Vec F S1024x2048 .bf16) := runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (iblk m c 0 t) (iblk m c 1 t) (iblk m c 2 t) (iblk m c 3 t) h xs

theorem starts_first (t : Fin cfg0.N) : starts (grid0.coords (first t)) := (starts_iff _).mpr (by simp only [first]; omega)

/-- The normalised block of rows of a point: in the scratch, and in the first result. -/
def block (t : Fin cfg0.N) : Vec F S1024x2048 .bf16 := View.canon (atStart m c (first t) (starts_first t)).2.2.2.2.1
def block4 (t : Fin cfg0.N) : Vec F S1024x2048 .bf16 := View.canon (atStart m c (first t) (starts_first t)).1

/-- What a point leaves in result 1. -/
def out5 (t : Fin cfg0.N) : Vec F S1024x512 .bf16 := if h : starts (grid0.coords t) then View.canon (atStart m c t h).2.1 else View.canon (atRest m c t h (block m c t)).1

/-- What a point leaves in result 2. -/
def out6 (t : Fin cfg0.N) : Vec F S1024x512 .bf16 := if h : starts (grid0.coords t) then View.canon (atStart m c t h).2.2.1 else View.canon (atRest m c t h (block m c t)).2.1

/-- What a point leaves in result 3. -/
def out7 (t : Fin cfg0.N) : Vec F S1024x512 .bf16 := if h : starts (grid0.coords t) then View.canon (atStart m c t h).2.2.2.1 else View.canon (atRest m c t h (block m c t)).2.2.1

theorem atStart_first (t : Fin cfg0.N) (hs : starts (grid0.coords t)) (h : first t = t) :
    block m c t = View.canon (atStart m c t hs).2.2.2.2.1 ∧ block4 m c t = View.canon (atStart m c t hs).1 := by
  have key : ∀ (u : Fin cfg0.N) (hu : starts (grid0.coords u)), u = t →
      View.canon (atStart m c u hu).2.2.2.2.1 = View.canon (atStart m c t hs).2.2.2.2.1
        ∧ View.canon (atStart m c u hu).1 = View.canon (atStart m c t hs).1 := by
    rintro u hu rfl; exact ⟨rfl, rfl⟩
  exact key _ (starts_first t) h

/-- The points of a block of rows share its normalised rows. -/
theorem block_of_first (t u : Fin cfg0.N) (h : first t = first u) : block m c t = block m c u ∧ block4 m c t = block4 m c u := by
  have key : ∀ (p q : Fin cfg0.N) (hp : starts (grid0.coords p)) (hq : starts (grid0.coords q)), p = q →
      View.canon (atStart m c p hp).2.2.2.2.1 = View.canon (atStart m c q hq).2.2.2.2.1
        ∧ View.canon (atStart m c p hp).1 = View.canon (atStart m c q hq).1 := by
    rintro p q hp hq rfl; exact ⟨rfl, rfl⟩
  exact key _ _ (starts_first t) (starts_first u) h

/-- What is kept between points: after the first point the scratch holds the block of rows of the point before. -/
def carried : (n : ℕ) → n ≤ cfg0.N → sProp 𝕄
  | 0, _ => Pipeline.ΦA spec0 c
  | n + 1, hn => iprop(owns (c : Thread nD τ) (Memref.whole cc0_scratch0) fullShare (block m c ⟨n, hn⟩) ∗ (∃ r, prngReg c r))

theorem carried_pos (n : ℕ) (h : n ≤ cfg0.N) (hz : n ≠ 0) :
    carried m c n h = iprop(owns (c : Thread nD τ) (Memref.whole cc0_scratch0) fullShare (block m c ⟨n - 1, by omega⟩) ∗ (∃ r, prngReg c r)) := by
  cases n with
  | zero => exact absurd rfl hz
  | succ n => rfl

/-- What the launch hands over, with the scratch as a buffer at some contents. -/
theorem launched_eq :
    (Pipeline.ΦA spec0 c : sProp 𝕄) = iprop(iprop(∃ d, owns (c : Thread nD τ) (Memref.whole cc0_scratch0) fullShare d) ∗ (∃ r, prngReg c r)) := by
  unfold Pipeline.ΦA; rw [scopedRest0_eq]; simp only [owns_whole]; try rfl

/-- Whatever is kept, the scratch is there at some contents. -/
theorem carried_any (n : ℕ) (h : n ≤ cfg0.N) : carried m c n h ⊢ Pipeline.ΦA spec0 c := by
  cases n with
  | zero => exact Entails.refl _
  | succ n =>
    rw [launched_eq]
    unfold carried
    iintro ⟨HS, Hg⟩
    isplitl [HS]
    · iexists _; iexact HS
    iexact Hg

/-- The proof data of the pipeline: each input's buffer at its block, the first result's at the rows of the point,
the products' at their tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block4 m c t
    | ⟨5, _⟩ => out5 m c t
    | ⟨6, _⟩ => out6 m c t
    | ⟨7, _⟩ => out7 m c t
  Φ t := carried m c t.val (Nat.le_of_lt_succ t.isLt)
  q _ := fullShare
  owed _ := 0

theorem A_eq (w : Fin cfg0.W) : (dats m 0 c).A w = V m c (Pipeline.arrRef spec0 w) := by
  dsimp only [dats]

theorem carried_castSucc (t : Fin cfg0.N) : (dats m 0 c).Φ t.castSucc = carried m c t.val (Nat.le_of_lt t.isLt) := by
  dsimp only [dats]; exact Pipeline.Dat.Φ_castSucc (carried m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = block4 m c t := by dsimp only [dats]
theorem after_5 (t : Fin cfg0.N) : (dats m 0 c).after 5 t = out5 m c t := by dsimp only [dats]
theorem after_6 (t : Fin cfg0.N) : (dats m 0 c).after 6 t = out6 m c t := by dsimp only [dats]
theorem after_7 (t : Fin cfg0.N) : (dats m 0 c).after 7 t = out7 m c t := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d
theorem before_3 (t : Fin cfg0.N) (d) : (dats m 0 c).before 3 t d = iblk m c 3 t :=
  before0_3_of m (dats m 0 c) (A_eq m c 3) (after_3 m c) t d

/-- At a point that does not start a block of rows, the first result's buffer holds the block's rows already. -/
theorem before_4 (n : ℕ) (hn : n < cfg0.N) (h : ¬n % 11 = 0) (d) : (dats m 0 c).before 4 ⟨n, hn⟩ d = block4 m c ⟨n, hn⟩ := by
  induction n with
  | zero => exact absurd rfl h
  | succ n ih =>
    have hn' : n < cfg0.N := Nat.lt_of_succ_lt hn
    have hb : block4 m c ⟨n, hn'⟩ = block4 m c ⟨n + 1, hn⟩ := (block_of_first m c _ _ (first_pred ⟨n + 1, hn⟩ h hn')).2
    have hfl : (cfg0.win 4).flush ⟨n, hn'⟩ = false :=
      Bool.eq_false_iff.mpr fun e => by have := (flush0_4 ⟨n, hn'⟩).mp e; simp only at this; omega
    refine ((dats m 0 c).before_of_pos 4 ⟨n + 1, hn⟩ (Nat.succ_ne_zero n) rfl d).trans ?_
    refine (if_neg (by rw [show (⟨(n + 1) - 1, Nat.lt_of_le_of_lt (Nat.sub_le _ _) hn⟩ : Fin cfg0.N) = ⟨n, hn'⟩ from rfl, hfl]; exact Bool.false_ne_true)).trans ?_
    refine Eq.trans ?_ hb
    show (dats m 0 c).left 4 ⟨n, hn'⟩ d = _
    unfold Dat.left
    by_cases h0 : n % 11 = 0
    · rw [show cfg0.idle 4 (cfg0.grid.coords ⟨n, hn'⟩) = false from by
        refine (idle_iff ⟨n, hn'⟩).trans ?_; rw [decide_eq_true ((starts_iff ⟨n, hn'⟩).mpr h0)]; rfl]
      exact ((Pipeline.fill_of_clip_none (cfg := cfg0) 4 _ (fun _ => rfl) d ((dats m 0 c).after 4 ⟨n, hn'⟩) _).trans (Pipeline.Window.fill_cut _ _ _)).trans (after_4 m c ⟨n, hn'⟩)
    · rw [show cfg0.idle 4 (cfg0.grid.coords ⟨n, hn'⟩) = true from by
        refine (idle_iff ⟨n, hn'⟩).trans ?_; rw [decide_eq_false (fun e => h0 ((starts_iff ⟨n, hn'⟩).mp e))]; rfl]
      exact ih hn' h0

/-- What the body is given at a point, and what it gives back. -/
def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def post (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window that is never idle is left at what the proof data says. -/
theorem leaves_live (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 3200000 in
/-- The body at a point that starts a block of rows. -/
theorem sound_start (t : Fin cfg0.N) (h : t.val % 11 = 0) :
    pre m c t ⊢ wp frame (wpE (defs₀ (F := F)) Variants.none c none) Set.univ (bodyAt0 t) (fun _ => post m c t) := by
  have hs : starts (grid0.coords t) := (starts_iff t).mpr h
  obtain ⟨hb, hb4⟩ := atStart_first m c t hs (first_self t h)
  unfold pre post bodyAt0
  simp only [before_0, before_1, before_2, before_3]
  rw [carried_castSucc]
  refine (sep_mono_left ((carried_any m c _ _).trans (by rw [launched_eq]))).trans ?_
  rw [show (dats m 0 c).owesAt () t.succ = (dats m 0 c).owesAt () t.castSucc from rfl]
  rw [show (dats m 0 c).Φ t.succ = iprop(owns (c : Thread nD τ) (Memref.whole cc0_scratch0) fullShare (block m c t) ∗ (∃ r, prngReg c r)) from rfl]
  rw [leaves_live m c 0 t rfl, after_0]
  rw [leaves_live m c 1 t rfl, after_1]
  rw [leaves_live m c 2 t rfl, after_2]
  rw [leaves_live m c 3 t rfl, after_3]
  rw [leaves_live m c 4 t (by rw [idle_iff, decide_eq_true hs]; rfl), after_4]
  rw [leaves_live m c 5 t rfl, after_5]
  rw [leaves_live m c 6 t rfl, after_6]
  rw [leaves_live m c 7 t rfl, after_7]
  rw [hb, hb4]
  rw [show out5 m c t = View.canon (atStart m c t hs).2.1 from dif_pos hs]
  rw [show out6 m c t = View.canon (atStart m c t hs).2.2.1 from dif_pos hs]
  rw [show out7 m c t = View.canon (atStart m c t hs).2.2.2.1 from dif_pos hs]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atStart m c t hs).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS]; · iexact HS
  iintro ⟨H0, H1, H2, H3, ⟨%e4, H4⟩, ⟨%e5, H5⟩, ⟨%e6, H6⟩, ⟨%e7, H7⟩, ⟨%es, HS⟩⟩
  isplitl [HS Hg]
  · isplitl [HS]
    · unfold owns; iexists _; isplitr
      swap; · iexact HS
      ipureintro; exact View.read_writes_eq_canon _ _ _ (coverS c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover4 c _ _ _ _ _ _ _ _ _ _ _ _ _ _ _ _ _ _ _ _ _ _ _ _)
  isplitl [H5]
  · unfold owns; iexists _; isplitr
    swap; · iexact H5
    ipureintro; exact View.read_writes_eq_canon _ _ _ (cover5 c _ _ _ _ _ _ _ _ _ _ _ _ _ _ _ _ _ _ _ _ _ _ _ _)
  isplitl [H6]
  · unfold owns; iexists _; isplitr
    swap; · iexact H6
    ipureintro; exact View.read_writes_eq_canon _ _ _ (cover6 c _ _ _ _ _ _ _ _ _ _ _ _ _ _ _ _ _ _ _ _ _ _ _ _)
  unfold owns; iexists _; isplitr
  swap; · iexact H7
  ipureintro; exact View.read_writes_eq_canon _ _ _ (cover7 c _ _ _ _ _ _ _ _ _ _ _ _ _ _ _ _ _ _ _ _ _ _ _ _)

set_option maxHeartbeats 3200000 in
/-- The body at any other point. -/
theorem sound_rest (t : Fin cfg0.N) (h : ¬t.val % 11 = 0) :
    pre m c t ⊢ wp frame (wpE (defs₀ (F := F)) Variants.none c none) Set.univ (bodyAt0 t) (fun _ => post m c t) := by
  have hs : ¬starts (grid0.coords t) := fun e => h ((starts_iff t).mp e)
  have hb : block m c ⟨t.val - 1, Nat.lt_of_le_of_lt (Nat.sub_le _ _) t.isLt⟩ = block m c t := (block_of_first m c _ _ (first_pred t h _)).1
  have hi : cfg0.idle 4 (grid0.coords t) = true := by rw [idle_iff, decide_eq_false hs]; rfl
  have hleave : owns (c : Thread nD τ) (st0_4 t) fullShare (block4 m c t) ⊢ (dats m 0 c).leavesExact 4 t := by
    cases hf : (cfg0.win 4).flush t with
    | false =>
      rw [Dat.leavesExact_idle (dats m 0 c) 4 t hi hf]
      simp only [before_4 m c t.val t.isLt h]
      iintro H
      iexists (block4 m c t); iexact H
    | true =>
      rw [show (dats m 0 c).leavesExact 4 t = owns (c : Thread nD τ) (st0_4 t) fullShare ((dats m 0 c).after 4 t) from by
        unfold Dat.leavesExact; rw [hi, hf], after_4]
  unfold pre post bodyAt0
  simp only [before_0, before_1, before_2, before_3, before_4 m c t.val t.isLt h]
  rw [carried_castSucc, carried_pos m c _ _ (fun e => h (by rw [e])), hb]
  rw [show (dats m 0 c).owesAt () t.succ = (dats m 0 c).owesAt () t.castSucc from rfl]
  rw [show (dats m 0 c).Φ t.succ = iprop(owns (c : Thread nD τ) (Memref.whole cc0_scratch0) fullShare (block m c t) ∗ (∃ r, prngReg c r)) from rfl]
  rw [leaves_live m c 0 t rfl, after_0]
  rw [leaves_live m c 1 t rfl, after_1]
  rw [leaves_live m c 2 t rfl, after_2]
  rw [leaves_live m c 3 t rfl, after_3]
  rw [leaves_live m c 5 t rfl, after_5]
  rw [leaves_live m c 6 t rfl, after_6]
  rw [leaves_live m c 7 t rfl, after_7]
  rw [show out5 m c t = View.canon (atRest m c t hs (block m c t)).1 from dif_neg hs]
  rw [show out6 m c t = View.canon (atRest m c t hs (block m c t)).2.1 from dif_neg hs]
  rw [show out7 m c t = View.canon (atRest m c t hs (block m c t)).2.2.1 from dif_neg hs]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atRest m c t hs (block m c t)).2.2.2 (block4 m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]; · iexact HS
  iintro ⟨H0, H1, H2, H3, H4, ⟨%e5, H5⟩, ⟨%e6, H6⟩, ⟨%e7, H7⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iapply hleave; iexact H4
  isplitl [H5]
  · unfold owns; iexists _; isplitr
    swap; · iexact H5
    ipureintro; exact View.read_writes_eq_canon _ _ _ (coverB5 c _ _ _ _ _ _ _ _ _ _ _ _ _ _ _ _ _ _ _ _ _ _ _ _ _)
  isplitl [H6]
  · unfold owns; iexists _; isplitr
    swap; · iexact H6
    ipureintro; exact View.read_writes_eq_canon _ _ _ (coverB6 c _ _ _ _ _ _ _ _ _ _ _ _ _ _ _ _ _ _ _ _ _ _ _ _ _)
  unfold owns; iexists _; isplitr
  swap; · iexact H7
  ipureintro; exact View.read_writes_eq_canon _ _ _ (coverB7 c _ _ _ _ _ _ _ _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem sound : BodyObligation (dats m 0 c) (defs₀ (F := F)) Variants.none () Set.univ := fun t => by
  rw [bigSep_W0, bigSep_W0, body_row]
  refine triple_restated (?_ : pre m c t ⊢ _) rfl .rfl fun _ => .rfl
  by_cases h : t.val % 11 = 0
  · exact sound_start m c t h
  · exact sound_rest m c t h

theorem enter : Pipeline.ΦA spec0 c ⊢ (dats m 0 c).Φ 0 := Entails.refl _

theorem leave : (dats m 0 c).Φ (Fin.last cfg0.N) ⊢ Pipeline.ΦA spec0 c := by
  rw [show (dats m 0 c).Φ (Fin.last cfg0.N) = carried m c cfg0.N (Nat.le_refl _) from rfl]
  exact carried_any m c _ _

set_option backward.isDefEq.respectTransparency.types false in
/-- The run: every array of the pipeline ends at what the proof data says, the counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (sound m c).loose) (hshare := fun c => (dats m 0 c).share_full fun _ => rfl)
    (howed := fun _ _ => rfl) (V := V m) (hmain := hmain m Variants.none) (hA := A_eq m) (hin := enter m) (hout := leave m)

/-- The arguments end unchanged. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.Up

end
-- ==== Proof.Kit.lean ====
/- Small facts shared by the value proofs: a list of stores read where its first part covers, a nonnegative real factor taken through a finite sum, and an element of a finite array read as a real. -/
module

public import Idealize.ShloMosaic.Lib.Pipeline.ValueKit
public import Idealize.ShloMosaic.Lib.Pipeline.ReadBack
public import Idealize.ShloMosaic.PureOps.Ideal.Laws
public import Idealize.ShloMosaic.Lib.ReduceAll
public import Idealize.ShloMosaic.Lib.Pointwise

@[expose] public section

noncomputable section

namespace Cert.Proof.Kit

open Idealize.ShloMosaic

/-- Where the later stores `L` cover an index, the earlier stores `L'` are not seen there. -/
theorem canon_of_cover {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], h => by obtain ⟨_, h, _⟩ := h; exact absurd h List.not_mem_nil
  | ⟨r, w⟩ :: L, h => by
    by_cases hy : y ∈ r.set
    · obtain ⟨x, rfl⟩ := r.exists_idx_of_mem hy
      rw [List.cons_append, show r.idx x = r.emb x from rfl, View.canon_cons_emb, View.canon_cons_emb]
    · rw [List.cons_append, View.canon_cons_of_not_mem ⟨r, w⟩ (L ++ L') hy, View.canon_cons_of_not_mem ⟨r, w⟩ L hy]
      refine canon_of_cover L' y L ?_
      obtain ⟨p, hp, hm⟩ := h
      rcases List.mem_cons.mp hp with rfl | hp
      · exact absurd hm hy
      · exact ⟨p, hp, hm⟩

/-- A nonnegative real factor goes through a finite sum of extended reals: no product of it is undefined. -/
theorem sum_mul_coe {ι : Type*} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast ha) (EReal.coe_ne_top a), ih]

/-- The word of one half. -/
theorem ofBits_half : Ideal.ofBits .f32 0x3F000000#32 = ((1 / 2 : ℝ) : EReal) := by
  simp [Ideal.ofBits, Ideal.ieee, -EReal.coe_mul]; norm_num

/-- One half goes through a finite sum. -/
theorem sum_mul_half {ι : Type*} (s : Finset ι) (f : ι → EReal) :
    (∑ i ∈ s, f i) * Ideal.ofBits .f32 0x3F000000#32 = ∑ i ∈ s, f i * Ideal.ofBits .f32 0x3F000000#32 := by
  rw [ofBits_half]; exact sum_mul_coe s f (by norm_num)

/-- A finite sum of reals, as a sum of extended reals. -/
theorem coe_sum {ι : Type*} [Fintype ι] (f : ι → ℝ) : (∑ i, (f i : EReal)) = ((∑ i, f i : ℝ) : EReal) := by
  classical
  induction (Finset.univ : Finset ι) using Finset.induction_on with
  | empty => simp
  | insert i s hi ih => rw [Finset.sum_insert hi, Finset.sum_insert hi, ih, EReal.coe_add]

/-- An extended real whose difference with itself is zero is a real. -/
theorem real_of_sub {x : EReal} (h : x - x = 0) : ∃ r : ℝ, x = (r : EReal) := by
  induction x with
  | bot => simp at h
  | top => simp at h
  | coe r => exact ⟨r, rfl⟩

/-- A float array that equals itself under subtraction everywhere is real everywhere. -/
theorem real_of_all {s t : Shape} {axes : List (Fin s.rank)} [Subsingleton t.Idx] (x : FVec Ideal s .f32) (hb) (hr : s.ReducesTo axes t)
    {u : Shape} (init : IVec u 1) (hu : 0 < u.numel) (j : t.Idx)
    (h : Host.reduce IntOp.andi (cmpf .oeq (subf x x) (broadcastInDim (s := ⟨0, ![]⟩) s ![] hb (constant ⟨0, ![]⟩ .f32 0x00000000#32))) init hr hu j = 1#1)
    (i : s.Idx) : ∃ r : ℝ, x i = (r : EReal) := by
  have e := Host.reduce_andi_all _ _ hr hu j h i
  pointwise at e
  refine real_of_sub (by_contra fun hn => ?_)
  rw [decide_eq_false hn] at e
  exact absurd e (by decide)

/-- The logistic of a real. -/
theorem logistic_coe (r : ℝ) : Ideal.div 1 (1 + Ideal.exp (-(r : EReal))) = ((1 / (1 + Real.exp (-r)) : ℝ) : EReal) := by
  have h : (1 + Real.exp (-r)) ≠ 0 := by positivity
  rw [← EReal.coe_neg, Ideal.exp_coe, ← EReal.coe_one, ← EReal.coe_add, Ideal.div_coe h, ← EReal.coe_mul, one_mul]

end Cert.Proof.Kit

end
-- ==== Proof.UpBlock.lean ====
module

public import proofs.«01_k».proof.Proof.UpCover
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! What one run of the body leaves, in closed form: the normalised block of rows, and the tiles of the three
products computed from it. -/

namespace Cert.Proof.Up

open Cert.UpIdeal Cert.UpIdeal.Gen Idealize.ShloMosaic Idealize.ShloMosaic.TcCoe

/-- The word of 2048, and the small constant under the root. -/
abbrev cols : EReal := Ideal.ofBits .f32 0x45000000#32
abbrev eps : EReal := Ideal.ofBits .f32 0x358637BD#32

/-- A normalised block of rows. -/
def rows (x0 : Vec Ideal S1024x2048 .f32) (x1 : Vec Ideal S1x2048 .f32) : Vec Ideal S1024x2048 .bf16 := fun j =>
  x0 j * Ideal.rsqrt (Ideal.div (∑ l : Fin 2048, x0 (ix2 (j 0) l) * x0 (ix2 (j 0) l)) cols + eps) * x1 (ix2 0 (j 1))

/-- A tile of a product. -/
def tile (h : Vec Ideal S1024x2048 .bf16) (w : Vec Ideal S2048x512 .bf16) (j : S1024x512.Idx) : EReal :=
  ∑ k : Fin 2048, h (ix2 (j 0) k) * w (ix2 k (j 1))

/-- The three tiles of a point. -/
def slope (h : Vec Ideal S1024x2048 .bf16) (w v : Vec Ideal S2048x512 .bf16) : Vec Ideal S1024x512 .bf16 := fun j =>
  tile h v j * (Ideal.logistic (tile h w j) * (1 + tile h w j * (1 - Ideal.logistic (tile h w j))))
def gate (h : Vec Ideal S1024x2048 .bf16) (w : Vec Ideal S2048x512 .bf16) : Vec Ideal S1024x512 .bf16 := fun j =>
  tile h w j * Ideal.logistic (tile h w j)
def act (h : Vec Ideal S1024x2048 .bf16) (w v : Vec Ideal S2048x512 .bf16) : Vec Ideal S1024x512 .bf16 := fun j =>
  tile h w j * Ideal.logistic (tile h w j) * tile h v j

end Cert.Proof.Up

end
-- ==== Proof.UpRows.lean ====
module

public import proofs.«01_k».proof.Proof.UpBlock
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The normalised block a starting point leaves. -/

namespace Cert.Proof.Up

open Cert.UpIdeal Cert.UpIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)
  (x0 : Vec Ideal S1024x2048 .f32) (x1 : Vec Ideal S1x2048 .f32) (x2 x3 : Vec Ideal S2048x512 .bf16)

/-- The normalised block, in the scratch and in the first result. -/
theorem canonS (hc : starts i) : View.canon (runA (F := Ideal) c i arg2 harg2 arg3 harg3 arg4 harg4 arg5 harg5 arg6 harg6 arg7 harg7 arg8 harg8 arg9 harg9 arg10 harg10 x0 x1 x2 x3 hc).2.2.2.2.1 = rows x0 x1 := by
  funext j
  frame_open
  unfold rows
  canon_tiles x h
  all_goals (open_payloads; pointwise [Memref.IsWhole.read_unread]; blk_point [])
theorem canon4 (hc : starts i) : View.canon (runA (F := Ideal) c i arg2 harg2 arg3 harg3 arg4 harg4 arg5 harg5 arg6 harg6 arg7 harg7 arg8 harg8 arg9 harg9 arg10 harg10 x0 x1 x2 x3 hc).1 = rows x0 x1 := by
  funext j
  frame_open
  unfold rows
  canon_tiles x h
  all_goals (open_payloads; pointwise [Memref.IsWhole.read_unread]; blk_point [])

end Cert.Proof.Up

end
-- ==== Proof.UpStart.lean ====
module

public import proofs.«01_k».proof.Proof.UpRows
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The tiles a starting point leaves: its products read the normalised block back from the scratch. -/

namespace Cert.Proof.Up

open Cert.UpIdeal Cert.UpIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)
  (x0 : Vec Ideal S1024x2048 .f32) (x1 : Vec Ideal S1x2048 .f32) (x2 x3 : Vec Ideal S2048x512 .bf16)

/-- What the products load from the scratch. -/
theorem loadS (hc : starts i) :
    View.readCov (Val := Elt Ideal) arg10.view (runA (F := Ideal) c i arg2 harg2 arg3 harg3 arg4 harg4 arg5 harg5 arg6 harg6 arg7 harg7 arg8 harg8 arg9 harg9 arg10 harg10 x0 x1 x2 x3 hc).2.2.2.2.1 (Rect.unit ![0, 0] S1024x2048.size inb_S1024x2048_S1024x2048_0_0).toLoadRect = rows x0 x1 := by
  rw [View.readCov_eq_canon_ld _ _ _ (coverS c i arg2 harg2 arg3 harg3 arg4 harg4 arg5 harg5 arg6 harg6 arg7 harg7 arg8 harg8 arg9 harg9 arg10 harg10 x0 x1 x2 x3 hc), canonS]
  funext j
  blk_point []

theorem canon5 (hc : starts i) : View.canon (runA (F := Ideal) c i arg2 harg2 arg3 harg3 arg4 harg4 arg5 harg5 arg6 harg6 arg7 harg7 arg8 harg8 arg9 harg9 arg10 harg10 x0 x1 x2 x3 hc).2.1 = slope (rows x0 x1) x2 x3 := by
  have hs : runA.sl.v3 (F := Ideal) c arg2 harg2 arg3 harg3 arg10 x0 x1 = rows x0 x1 := loadS c i arg2 harg2 arg3 harg3 arg4 harg4 arg5 harg5 arg6 harg6 arg7 harg7 arg8 harg8 arg9 harg9 arg10 harg10 x0 x1 x2 x3 hc
  unfold runA
  dsimp only
  rw [hs]
  clear hs
  funext j
  frame_open
  frame_out
  unfold slope tile
  pointwise [k0_pay6, k0_pay4, k0_pay3, k0_pay2]

theorem canon6 (hc : starts i) : View.canon (runA (F := Ideal) c i arg2 harg2 arg3 harg3 arg4 harg4 arg5 harg5 arg6 harg6 arg7 harg7 arg8 harg8 arg9 harg9 arg10 harg10 x0 x1 x2 x3 hc).2.2.1 = gate (rows x0 x1) x2 := by
  have hs : runA.sl.v3 (F := Ideal) c arg2 harg2 arg3 harg3 arg10 x0 x1 = rows x0 x1 := loadS c i arg2 harg2 arg3 harg3 arg4 harg4 arg5 harg5 arg6 harg6 arg7 harg7 arg8 harg8 arg9 harg9 arg10 harg10 x0 x1 x2 x3 hc
  unfold runA
  dsimp only
  rw [hs]
  clear hs
  funext j
  frame_open
  frame_out
  unfold gate tile
  pointwise [k0_pay7, k0_pay5, k0_pay4, k0_pay3, k0_pay2]

theorem canon7 (hc : starts i) : View.canon (runA (F := Ideal) c i arg2 harg2 arg3 harg3 arg4 harg4 arg5 harg5 arg6 harg6 arg7 harg7 arg8 harg8 arg9 harg9 arg10 harg10 x0 x1 x2 x3 hc).2.2.2.1 = act (rows x0 x1) x2 x3 := by
  have hs : runA.sl.v3 (F := Ideal) c arg2 harg2 arg3 harg3 arg10 x0 x1 = rows x0 x1 := loadS c i arg2 harg2 arg3 harg3 arg4 harg4 arg5 harg5 arg6 harg6 arg7 harg7 arg8 harg8 arg9 harg9 arg10 harg10 x0 x1 x2 x3 hc
  unfold runA
  dsimp only
  rw [hs]
  clear hs
  funext j
  frame_open
  frame_out
  unfold act tile
  pointwise [k0_pay8, k0_pay5, k0_pay4, k0_pay3, k0_pay2]

end Cert.Proof.Up

end
-- ==== Proof.UpRest.lean ====
module

public import proofs.«01_k».proof.Proof.UpBlock
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The tiles a point leaves that does not start a block of rows. -/

namespace Cert.Proof.Up

open Cert.UpIdeal Cert.UpIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x2048 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole)
  (arg10 : Memref sig .tc .vmem S1024x2048 .bf16) (harg10 : arg10.IsWhole)
  (x0 : Vec Ideal S1024x2048 .f32) (x1 : Vec Ideal S1x2048 .f32) (x2 x3 : Vec Ideal S2048x512 .bf16)

/-- The tiles of a point that does not start a block, on what the scratch holds. -/
theorem canonB5 (hc : ¬starts i) (xs) : View.canon (runB (F := Ideal) c i arg2 harg2 arg3 harg3 arg4 harg4 arg5 harg5 arg6 harg6 arg7 harg7 arg8 harg8 arg9 harg9 arg10 harg10 x0 x1 x2 x3 hc xs).1 = slope xs x2 x3 := by
  funext j
  frame_out
  unfold slope tile
  pointwise [k0_pay6, k0_pay4, k0_pay3, k0_pay2]
theorem canonB6 (hc : ¬starts i) (xs) : View.canon (runB (F := Ideal) c i arg2 harg2 arg3 harg3 arg4 harg4 arg5 harg5 arg6 harg6 arg7 harg7 arg8 harg8 arg9 harg9 arg10 harg10 x0 x1 x2 x3 hc xs).2.1 = gate xs x2 := by
  funext j
  frame_out
  unfold gate tile
  pointwise [k0_pay7, k0_pay5, k0_pay4, k0_pay3, k0_pay2]
theorem canonB7 (hc : ¬starts i) (xs) : View.canon (runB (F := Ideal) c i arg2 harg2 arg3 harg3 arg4 harg4 arg5 harg5 arg6 harg6 arg7 harg7 arg8 harg8 arg9 harg9 arg10 harg10 x0 x1 x2 x3 hc xs).2.2.1 = act xs x2 x3 := by
  funext j
  frame_out
  unfold act tile
  pointwise [k0_pay8, k0_pay5, k0_pay4, k0_pay3, k0_pay2]

end Cert.Proof.Up

end
-- ==== Proof.UpLeft.lean ====
module

public import proofs.«01_k».proof.Proof.UpFrame
public import proofs.«01_k».proof.Proof.UpStart
public import proofs.«01_k».proof.Proof.UpRest

@[expose] public section

set_option maxRecDepth 16384

noncomputable section

/-! What the run leaves at a point, over the reals: the normalised rows of the block, and the three tiles. -/

namespace Cert.Proof.Up

open Cert.UpIdeal Cert.UpIdeal.Gen Idealize.ShloMosaic Idealize.ShloMosaic.TcCoe

variable (m : (ℓ : Loc nD τ sig) → Buf (Elt Ideal) ℓ) (c : Dev nD) (t : Fin cfg0.N)

theorem block_eq : block m c t = rows (iblk m c 0 (first t)) (iblk m c 1 (first t)) := canonS ..
theorem block4_eq : block4 m c t = rows (iblk m c 0 (first t)) (iblk m c 1 (first t)) := canon4 ..

theorem block_start (h : starts (grid0.coords t)) : rows (iblk m c 0 t) (iblk m c 1 t) = block m c t := by
  rw [block_eq, first_self t ((starts_iff t).mp h)]

theorem out5_eq : out5 m c t = slope (block m c t) (iblk m c 2 t) (iblk m c 3 t) := by
  unfold out5; split
  · rename_i h; rw [← block_start m c t h]; exact canon5 ..
  · exact canonB5 ..
theorem out6_eq : out6 m c t = gate (block m c t) (iblk m c 2 t) := by
  unfold out6; split
  · rename_i h; rw [← block_start m c t h]; exact canon6 ..
  · exact canonB6 ..
theorem out7_eq : out7 m c t = act (block m c t) (iblk m c 2 t) (iblk m c 3 t) := by
  unfold out7; split
  · rename_i h; rw [← block_start m c t h]; exact canon7 ..
  · exact canonB7 ..

end Cert.Proof.Up

end
-- ==== Proof.Up.lean ====
module

public import proofs.«01_k».proof.Proof.UpLeft
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The four results of the first projection as whole arrays: the normalised rows, and the three elementwise
functions of their products with the two halves of the weight. -/

namespace Cert.Proof.Up

open Cert.UpIdeal Cert.UpIdeal.Gen Idealize.ShloMosaic Idealize.ShloMosaic.TcCoe Idealize.SL.Sem

/-- Every row divided by its root mean square, times the gain. -/
def norm (x : Vec Ideal S8192x2048 .f32) (g : Vec Ideal S1x2048 .f32) : Vec Ideal S8192x2048 .f32 := fun i =>
  x i * Ideal.rsqrt (Ideal.div (∑ l : Fin 2048, x (ix2 (i 0) l) * x (ix2 (i 0) l)) cols + eps) * g (ix2 0 (i 1))

/-- Its product with a weight. -/
def prod (x : Vec Ideal S8192x2048 .f32) (g : Vec Ideal S1x2048 .f32) (w : Vec Ideal S2048x5632 .f32) (i : S8192x5632.Idx) : EReal :=
  ∑ k : Fin 2048, norm x g (ix2 (i 0) k) * w (ix2 k (i 1))

variable (m : (ℓ : Loc nD τ sig) → Buf (Elt Ideal) ℓ) (c : Dev nD)

theorem idx : ∀ t : Fin cfg0.N, win0_0.index (first t) = ![t.val / 11, 0] ∧ win0_1.index (first t) = ![0, 0]
    ∧ win0_2.index t = ![0, t.val % 11] ∧ win0_3.index t = ![0, t.val % 11] ∧ win0_4.index t = ![t.val / 11, 0]
    ∧ win0_5.index t = ![t.val / 11, t.val % 11] ∧ win0_6.index t = ![t.val / 11, t.val % 11] ∧ win0_7.index t = ![t.val / 11, t.val % 11] :=
  (by decide +kernel : ∀ t : Fin grid0.N, _)

/-- A block of rows is the rows of the whole array. -/
theorem block_apply (t : Fin cfg0.N) (a : Fin 1024) (k : Fin 2048) (i : S8192x5632.Idx) (h : (i 0).val = t.val / 11 * 1024 + a.val) :
    block m c t (ix2 a k) = norm (m ((c : Thread nD τ).loc main_arg0)) (m ((c : Thread nD τ).loc main_arg1)) (ix2 (i 0) k) := by
  rw [block_eq]
  unfold rows norm
  blk_point [iblk, V, idx t]

/-- A tile of a product is a piece of the whole product. -/
theorem tile_gate (t : Fin cfg0.N) (y : S1024x512.Idx) : tile (block m c t) (iblk m c 2 t) y
    = prod (m ((c : Thread nD τ).loc main_arg0)) (m ((c : Thread nD τ).loc main_arg1)) (m ((c : Thread nD τ).loc main_arg2)) ((win0_5.blk t).view.emb y) := by
  unfold tile prod
  refine Finset.sum_congr (M := EReal) rfl fun k _ => congrArg₂ (· * ·) (block_apply m c t _ k _ ?_) ?_
  · blk_point [idx t]
  · blk_point [iblk, V, idx t]

theorem tile_up (t : Fin cfg0.N) (y : S1024x512.Idx) : tile (block m c t) (iblk m c 3 t) y
    = prod (m ((c : Thread nD τ).loc main_arg0)) (m ((c : Thread nD τ).loc main_arg1)) (m ((c : Thread nD τ).loc main_arg3)) ((win0_5.blk t).view.emb y) := by
  unfold tile prod
  refine Finset.sum_congr (M := EReal) rfl fun k _ => congrArg₂ (· * ·) (block_apply m c t _ k _ ?_) ?_
  · blk_point [idx t]
  · blk_point [iblk, V, idx t]

/-- The three elementwise functions of the two products. -/
def slopes (a b : EReal) : EReal := b * (Ideal.logistic a * (1 + a * (1 - Ideal.logistic a)))
def gates (a : EReal) : EReal := a * Ideal.logistic a
def acts (a b : EReal) : EReal := a * Ideal.logistic a * b

theorem value_rows : (dats m 0 c).arrAt 4 cfg0.N
    = norm (m ((c : Thread nD τ).loc main_arg0)) (m ((c : Thread nD τ).loc main_arg1)) := by
  refine (dats m 0 c).arrAt_eq_of_covers 4 _ (by decide +kernel) fun t hf y => ?_
  blk_simp
  rw [after_4, block4_eq]
  unfold rows norm
  blk_point [iblk, V, idx t]

theorem value_slope : (dats m 0 c).arrAt 5 cfg0.N
    = fun i => slopes (prod (m ((c : Thread nD τ).loc main_arg0)) (m ((c : Thread nD τ).loc main_arg1)) (m ((c : Thread nD τ).loc main_arg2)) i)
        (prod (m ((c : Thread nD τ).loc main_arg0)) (m ((c : Thread nD τ).loc main_arg1)) (m ((c : Thread nD τ).loc main_arg3)) i) := by
  refine (dats m 0 c).arrAt_eq_of_covers 5 _ (by decide +kernel) fun t hf y => ?_
  blk_simp
  rw [after_5, out5_eq]
  exact congrArg₂ slopes (tile_gate m c t y) (tile_up m c t y)

theorem value_gate : (dats m 0 c).arrAt 6 cfg0.N
    = fun i => gates (prod (m ((c : Thread nD τ).loc main_arg0)) (m ((c : Thread nD τ).loc main_arg1)) (m ((c : Thread nD τ).loc main_arg2)) i) := by
  refine (dats m 0 c).arrAt_eq_of_covers 6 _ (by decide +kernel) fun t hf y => ?_
  blk_simp
  rw [after_6, out6_eq]
  exact congrArg gates (tile_gate m c t y)

theorem value_act : (dats m 0 c).arrAt 7 cfg0.N
    = fun i => acts (prod (m ((c : Thread nD τ).loc main_arg0)) (m ((c : Thread nD τ).loc main_arg1)) (m ((c : Thread nD τ).loc main_arg2)) i)
        (prod (m ((c : Thread nD τ).loc main_arg0)) (m ((c : Thread nD τ).loc main_arg1)) (m ((c : Thread nD τ).loc main_arg3)) i) := by
  refine (dats m 0 c).arrAt_eq_of_covers 7 _ (by decide +kernel) fun t hf y => ?_
  blk_simp
  rw [after_7, out7_eq]
  exact congrArg₂ acts (tile_gate m c t y) (tile_up m c t y)

/-- The run: the four results at what the proof data says, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 4 cfg0.N
      ∧ r.2.mem ((c.tc : Thread nD τ).loc main_v2_1) = (dats m 0 c).arrAt 5 cfg0.N
      ∧ r.2.mem ((c.tc : Thread nD τ).loc main_v2_2) = (dats m 0 c).arrAt 6 cfg0.N
      ∧ r.2.mem ((c.tc : Thread nD τ).loc main_v2_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.1 c).1 4, (h.1.1 c).1 5, (h.1.1 c).1 6, (h.1.1 c).1 7, h.2.1 c⟩)
    (θ_run_and (run_quiescent m ρ) (run_frame m ρ))

end Cert.Proof.Up

end
-- ==== Proof.UpClaim.lean ====
module

public import proofs.«01_k».proof.Defs
public import proofs.«01_k».proof.Proof.Up
public import proofs.«01_k».proof.Proof.Gen.UpRefIdeal.Read
public import proofs.«01_k».proof.Proof.Gen.Pre_up_finite

@[expose] public section

set_option maxRecDepth 16384

noncomputable section

/-! The four results of the reference are those of the kernel. Three of them agree on all extended reals; the
gate's slope is written in another order, which needs the values to be real. -/

namespace Cert.Proof.Up

open Idealize.ShloMosaic Idealize.ShloMosaic.TcCoe Idealize.SL.Sem

variable (x : Vec Ideal Cert.UpIdeal.S8192x2048 .f32) (g : Vec Ideal Cert.UpIdeal.S1x2048 .f32) (w v : Vec Ideal Cert.UpIdeal.S2048x5632 .f32)

theorem reference_rows (i : Cert.UpIdeal.S8192x2048.Idx) : Cert.UpRefIdeal.Read.val_main_v11 (F := Ideal) x g i = norm x g i := by
  unfold norm
  pointwise [Cert.UpRefIdeal.Read.val_main_v0, Cert.UpRefIdeal.Read.val_main_cst, Cert.UpRefIdeal.Read.val_main_v1, Cert.UpRefIdeal.Read.val_main_v2,
    Cert.UpRefIdeal.Read.val_main_cst_0, Cert.UpRefIdeal.Read.val_main_v3, Cert.UpRefIdeal.Read.val_main_v4, Cert.UpRefIdeal.Read.val_main_cst_1,
    Cert.UpRefIdeal.Read.val_main_v5, Cert.UpRefIdeal.Read.val_main_v6, Cert.UpRefIdeal.Read.val_main_v7, Cert.UpRefIdeal.Read.val_main_v8,
    Cert.UpRefIdeal.Read.val_main_v9, Cert.UpRefIdeal.Read.val_main_v10, Cert.UpRefIdeal.Read.val_main_v11]

theorem reference_gate (i : Cert.UpIdeal.S8192x5632.Idx) : Cert.UpRefIdeal.Read.val_main_v12 (F := Ideal) x g w i = prod x g w i := by
  unfold prod
  rw [Cert.UpRefIdeal.Read.val_main_v12_apply]
  refine Finset.sum_congr (M := EReal) rfl fun k _ => ?_
  rw [reference_rows]
  exact congrArg₂ (fun a b => norm x g a * w b) (funext fun | 0 => rfl | 1 => rfl) (funext fun | 0 => rfl | 1 => rfl)

theorem reference_up (i : Cert.UpIdeal.S8192x5632.Idx) : Cert.UpRefIdeal.Read.val_main_v13 (F := Ideal) x g v i = prod x g v i :=
  reference_gate x g v i

/-- The gate's logistic. -/
theorem reference_logistic (i : Cert.UpIdeal.S8192x5632.Idx) :
    Cert.UpRefIdeal.Read.val_main_v14_2 (F := Ideal) x g w i = Ideal.logistic (prod x g w i) := by
  rw [← reference_gate]
  pointwise [Cert.UpRefIdeal.Read.val_main_call0_v0, Cert.UpRefIdeal.Read.val_main_call0_v1, Cert.UpRefIdeal.Read.val_main_call0_cst, Cert.UpRefIdeal.Read.val_main_call0_v2,
    Cert.UpRefIdeal.Read.val_main_call0_v3, Cert.UpRefIdeal.Read.val_main_call0_cst_0, Cert.UpRefIdeal.Read.val_main_call0_v4, Cert.UpRefIdeal.Read.val_main_v14_2]
  rfl

theorem reference_gates (i : Cert.UpIdeal.S8192x5632.Idx) : Cert.UpRefIdeal.Read.val_main_v22 (F := Ideal) x g w i = gates (prod x g w i) := by
  unfold gates
  rw [← reference_logistic, ← reference_gate]
  pointwise [Cert.UpRefIdeal.Read.val_main_v14_0, Cert.UpRefIdeal.Read.val_main_cst_2, Cert.UpRefIdeal.Read.val_main_v16, Cert.UpRefIdeal.Read.val_main_v17, Cert.UpRefIdeal.Read.val_main_v22]

theorem reference_acts (i : Cert.UpIdeal.S8192x5632.Idx) : Cert.UpRefIdeal.Read.val_main_v23 (F := Ideal) x g w v i = acts (prod x g w i) (prod x g v i) := by
  unfold acts
  rw [← reference_logistic, ← reference_up x g v, ← reference_gate x g w]
  pointwise [Cert.UpRefIdeal.Read.val_main_v14_0, Cert.UpRefIdeal.Read.val_main_v15, Cert.UpRefIdeal.Read.val_main_v23]

/-- The reference's gate slope, as it is written. -/
theorem reference_slope (i : Cert.UpIdeal.S8192x5632.Idx) : Cert.UpRefIdeal.Read.val_main_v21 (F := Ideal) x g w v i
    = prod x g v i * Ideal.logistic (prod x g w i)
      + prod x g w i * prod x g v i * (Ideal.logistic (prod x g w i) * (1 - Ideal.logistic (prod x g w i))) := by
  rw [← reference_logistic, ← reference_up x g v, ← reference_gate x g w]
  pointwise [Cert.UpRefIdeal.Read.val_main_call0_cst_1, Cert.UpRefIdeal.Read.val_main_call0_v6, Cert.UpRefIdeal.Read.val_main_call0_v7, Cert.UpRefIdeal.Read.val_main_v14_1,
    Cert.UpRefIdeal.Read.val_main_cst_2, Cert.UpRefIdeal.Read.val_main_v16, Cert.UpRefIdeal.Read.val_main_v18, Cert.UpRefIdeal.Read.val_main_call1_v0,
    Cert.UpRefIdeal.Read.val_main_call1_v1, Cert.UpRefIdeal.Read.val_main_call1_v2, Cert.UpRefIdeal.Read.val_main_v19, Cert.UpRefIdeal.Read.val_main_v21]

/-- The words of 2048 and of the small constant are positive reals. -/
theorem cols_coe : cols = ((2048 : ℝ) : EReal) := by
  simp [cols, Ideal.ofBits, Ideal.ieee, -EReal.coe_mul]; norm_num

theorem eps_coe : ∃ e : ℝ, 0 < e ∧ eps = (e : EReal) := by
  refine ⟨8796093 / 8796093022208, by norm_num, ?_⟩
  simp [eps, Ideal.ofBits, Ideal.ieee, -EReal.coe_mul]; norm_num

/-- The normalised rows of a real array are real: the mean of squares is not negative, so the root is taken of a
positive number. -/
theorem norm_coe (hx : ∀ i, ∃ r : ℝ, x i = (r : EReal)) (hg : ∀ i, ∃ r : ℝ, g i = (r : EReal)) (i : Cert.UpIdeal.S8192x2048.Idx) :
    ∃ r : ℝ, norm x g i = (r : EReal) := by
  choose a ha using hx
  choose b hb using hg
  obtain ⟨e, he, hee⟩ := eps_coe
  have hs : 0 ≤ ∑ l : Fin 2048, a (ix2 (i 0) l) * a (ix2 (i 0) l) := Finset.sum_nonneg fun l _ => mul_self_nonneg _
  have hp : 0 < (∑ l : Fin 2048, a (ix2 (i 0) l) * a (ix2 (i 0) l)) * (2048 : ℝ)⁻¹ + e := by positivity
  unfold norm
  simp only [ha, hb, ← EReal.coe_mul]
  rw [Kit.coe_sum, cols_coe, hee, Ideal.div_coe (by norm_num), ← EReal.coe_mul, ← EReal.coe_add, Ideal.rsqrt_coe, if_neg (by linarith), if_neg (by linarith)]
  exact ⟨_, by rw [← EReal.coe_mul, ← EReal.coe_mul]⟩

theorem prod_coe (hx : ∀ i, ∃ r : ℝ, x i = (r : EReal)) (hg : ∀ i, ∃ r : ℝ, g i = (r : EReal)) (hw : ∀ i, ∃ r : ℝ, w i = (r : EReal))
    (i : Cert.UpIdeal.S8192x5632.Idx) : ∃ r : ℝ, prod x g w i = (r : EReal) := by
  choose h hh using norm_coe x g hx hg
  choose b hb using hw
  refine ⟨∑ k : Fin 2048, h (ix2 (i 0) k) * b (ix2 k (i 1)), ?_⟩
  unfold prod
  simp only [hh, hb, ← EReal.coe_mul]
  exact Kit.coe_sum _

/-- The two ways of writing the gate's slope agree over the reals. -/
theorem slope_law (a b s : ℝ) : (b : EReal) * (s : EReal) + (a : EReal) * (b : EReal) * ((s : EReal) * (1 - (s : EReal)))
    = (b : EReal) * ((s : EReal) * (1 + (a : EReal) * (1 - (s : EReal)))) := by
  norm_cast
  ring

theorem reference_slopes (hx : ∀ i, ∃ r : ℝ, x i = (r : EReal)) (hg : ∀ i, ∃ r : ℝ, g i = (r : EReal)) (hw : ∀ i, ∃ r : ℝ, w i = (r : EReal))
    (hv : ∀ i, ∃ r : ℝ, v i = (r : EReal)) (i : Cert.UpIdeal.S8192x5632.Idx) :
    Cert.UpRefIdeal.Read.val_main_v21 (F := Ideal) x g w v i = slopes (prod x g w i) (prod x g v i) := by
  obtain ⟨a, ha⟩ := prod_coe x g w hx hg hw i
  obtain ⟨b, hb⟩ := prod_coe x g v hx hg hv i
  have hl : Ideal.logistic (a : EReal) = ((1 / (1 + Real.exp (-a)) : ℝ) : EReal) := Kit.logistic_coe a
  rw [reference_slope, slopes, ha, hb, hl]
  exact slope_law a b _

/-- What the precondition says: the four arrays are real. -/
theorem finite (x : FVec Ideal Cert.Pre_up_finite.S8192x2048 .f32) (g : FVec Ideal Cert.Pre_up_finite.S1x2048 .f32) (w v : FVec Ideal Cert.Pre_up_finite.S2048x5632 .f32)
    (h : @Cert.Pre_up_finite.fn Cert.Pre_up_finite.Gen.facts Ideal _ x g w v = fun _ => 1#1) :
    (∀ i, ∃ r : ℝ, x i = (r : EReal)) ∧ (∀ i, ∃ r : ℝ, g i = (r : EReal)) ∧ (∀ i, ∃ r : ℝ, w i = (r : EReal)) ∧ ∀ i, ∃ r : ℝ, v i = (r : EReal) := by
  haveI : Subsingleton Cert.Pre_up_finite.S_.Idx := ⟨fun a b => funext fun k => k.elim0⟩
  have e := congrFun h (fun k => k.elim0)
  unfold Cert.Pre_up_finite.fn Cert.Pre_up_finite.fn_part1 at e
  obtain ⟨e, e3⟩ := IntOp.andi_eq_one.1 e
  obtain ⟨e, e2⟩ := IntOp.andi_eq_one.1 e
  obtain ⟨e0, e1⟩ := IntOp.andi_eq_one.1 e
  exact ⟨Kit.real_of_all x _ _ _ _ _ e0, Kit.real_of_all g _ _ _ _ _ e1, Kit.real_of_all w _ _ _ _ _ e2, Kit.real_of_all v _ _ _ _ _ e3⟩

theorem algebraic : Cert.algebraic_UpIdeal_UpRefIdeal_pre_up_finite (hUpIdeal := Cert.UpIdeal.Gen.facts) (hUpRefIdeal := Cert.UpRefIdeal.Gen.facts)
    (hPre_up_finite := Cert.Pre_up_finite.Gen.facts) := by
  intro m ρ m' ρ' hpre hagree
  refine ⟨fun c => (dats m 0 c).arrAt 4 Cert.UpIdeal.cfg0.N, fun c => (dats m 0 c).arrAt 5 Cert.UpIdeal.cfg0.N,
    fun c => (dats m 0 c).arrAt 6 Cert.UpIdeal.cfg0.N, fun c => (dats m 0 c).arrAt 7 Cert.UpIdeal.cfg0.N, run_values m ρ, ?_⟩
  refine (θ_run _ _ _).mono (fun r h c => ⟨(h c).1.trans ?_, (h c).2.1.trans ?_, (h c).2.2.1.trans ?_, (h c).2.2.2.1.trans ?_, (h c).2.2.2.2⟩)
    (Cert.UpRefIdeal.Value.run (F := Ideal) m' ρ')
  · rw [(hagree c).1, (hagree c).2.1, show (fun c => (dats m 0 c).arrAt 4 Cert.UpIdeal.cfg0.N) c = _ from value_rows m c]
    exact (Cert.UpRefIdeal.Read.val_main_v20_eq _ _).trans (funext fun i => reference_rows _ _ i)
  · rw [show (fun c => (dats m 0 c).arrAt 5 Cert.UpIdeal.cfg0.N) c = _ from value_slope m c]
    obtain ⟨h0, h1, h2, h3⟩ := finite _ _ _ _ (hpre c)
    refine (Cert.UpRefIdeal.Read.val_main_v21_eq m' c).trans ?_
    rw [(hagree c).1, (hagree c).2.1, (hagree c).2.2.1, (hagree c).2.2.2]
    exact funext fun i => reference_slopes _ _ _ _ h0 h1 h2 h3 i
  · rw [(hagree c).1, (hagree c).2.1, (hagree c).2.2.1, show (fun c => (dats m 0 c).arrAt 6 Cert.UpIdeal.cfg0.N) c = _ from value_gate m c]
    exact (Cert.UpRefIdeal.Read.val_main_v22_eq _ _ _).trans (funext fun i => reference_gates _ _ _ i)
  · rw [(hagree c).1, (hagree c).2.1, (hagree c).2.2.1, (hagree c).2.2.2, show (fun c => (dats m 0 c).arrAt 7 Cert.UpIdeal.cfg0.N) c = _ from value_act m c]
    exact (Cert.UpRefIdeal.Read.val_main_v23_eq _ _ _ _).trans (funext fun i => reference_acts _ _ _ _ i)

end Cert.Proof.Up

end
-- ==== Proof.MixInRun.lean ====
module

public import proofs.«01_k».proof.Proof.Gen.MixInIdeal.Frame
public import proofs.«01_k».proof.Proof.Gen.MixInIdeal.Skeleton

@[expose] public section

set_option maxRecDepth 16384

noncomputable section

/-! The two ways the body of the input projection of the mixer runs. At the first point of a block of rows (`first`) it
normalises the block, strip by strip, into the scratch and the first result, then multiplies; at the other
points it only multiplies, on what the scratch holds. -/

namespace Cert.Proof.MixIn

open Cert.MixInIdeal Cert.MixInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The point starts a block of rows. -/
abbrev starts (i : grid0.Coords) : Prop := k0_cond1 i = 1#1

/-- A buffer with a list of stores written into it, over anything. -/
abbrev written {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole)
  (arg5 : Memref sig .tc .vmem S1024x2048 .bf16) (harg5 : arg5.IsWhole) (arg6 : Memref sig .tc .vmem S1024x512 .f32) (harg6 : arg6.IsWhole)
  (arg7 : Memref sig .tc .vmem S1024x2048 .bf16) (harg7 : arg7.IsWhole)
  (x0 : Vec F S1024x2048 .f32) (x1 : Vec F S1x2048 .f32) (x2 : Vec F S2048x512 .bf16)

set_option maxHeartbeats 3000000 in
/-- A point that starts a block of rows: the stores into the two results and the scratch, with the body's triple. -/
noncomputable def runA (hc : starts i) :
    Σ' (L3 : List (View.Piece (Elt F) S1024x2048 .bf16)) (L4 : List (View.Piece (Elt F) S1024x512 .f32)),
      { LS : List (View.Piece (Elt F) S1024x2048 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ written c arg5 L3 ∗ written c arg6 L4 ∗ written c arg7 LS) -∗ K ⟨⟩))
          ⊢ wp frame (wpE (defs₀ (F := F)) Variants.none c none) E (cc0_mix_in i arg2 harg2 arg3 harg3 arg4 harg4 arg5 harg5 arg6 harg6 arg7 harg7) K } := by
  refine ⟨?_, ?_, ?_, fun E K => ?run⟩
  case run =>
    simp only [cc0_mix_in_eq_skeleton]; unfold cc0_mix_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

set_option maxHeartbeats 1000000 in
/-- Any other point: the stores into the product, the first result and the scratch left as they were. -/
noncomputable def runB (hc : ¬starts i) (xs : Vec F S1024x2048 .bf16) :
    { L4 : List (View.Piece (Elt F) S1024x512 .f32) // ∀ (x3 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ written c arg6 L4 ∗ owns (c : Thread nD τ) arg7 fullShare xs) -∗ K ⟨⟩))
          ⊢ wp frame (wpE (defs₀ (F := F)) Variants.none c none) E (cc0_mix_in i arg2 harg2 arg3 harg3 arg4 harg4 arg5 harg5 arg6 harg6 arg7 harg7) K } := by
  refine ⟨?_, fun x3 E K => ?run⟩
  case run =>
    simp only [cc0_mix_in_eq_skeleton]; unfold cc0_mix_in_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Proof.MixIn

end
-- ==== Proof.MixInCover.lean ====
module

public import proofs.«01_k».proof.Proof.MixInRun

@[expose] public section

set_option maxRecDepth 16384

noncomputable section

/-! Every result's buffer, and the scratch, is covered by what one run of the body stores into it. -/

namespace Cert.Proof.MixIn

open Cert.MixInIdeal Cert.MixInIdeal.Gen Idealize.ShloMosaic Idealize.ShloMosaic.TcCoe Idealize.ShloMosaic.Tactic

variable {F : FTy → Type} [FloatOps F]
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole)
  (arg5 : Memref sig .tc .vmem S1024x2048 .bf16) (harg5 : arg5.IsWhole) (arg6 : Memref sig .tc .vmem S1024x512 .f32) (harg6 : arg6.IsWhole)
  (arg7 : Memref sig .tc .vmem S1024x2048 .bf16) (harg7 : arg7.IsWhole)
  (x0 : Vec F S1024x2048 .f32) (x1 : Vec F S1x2048 .f32) (x2 : Vec F S2048x512 .bf16)

theorem coverS (hc : starts i) (y : S1024x2048.Idx) : ∃ p ∈ (runA (F := F) c i arg2 harg2 arg3 harg3 arg4 harg4 arg5 harg5 arg6 harg6 arg7 harg7 x0 x1 x2 hc).2.2.1, y ∈ p.1.set :=
  View.cover_of_tiledL _ ![16, 2048] (by sl_kernel_rfl) y
theorem cover3 (hc : starts i) (y : S1024x2048.Idx) : ∃ p ∈ (runA (F := F) c i arg2 harg2 arg3 harg3 arg4 harg4 arg5 harg5 arg6 harg6 arg7 harg7 x0 x1 x2 hc).1, y ∈ p.1.set :=
  View.cover_of_tiledL _ ![16, 2048] (by sl_kernel_rfl) y
theorem cover4 (hc : starts i) (y : S1024x512.Idx) : ∃ p ∈ (runA (F := F) c i arg2 harg2 arg3 harg3 arg4 harg4 arg5 harg5 arg6 harg6 arg7 harg7 x0 x1 x2 hc).2.1, y ∈ p.1.set :=
  View.cover_of_tiledL _ ![1024, 512] (by sl_kernel_rfl) y
theorem coverB4 (hc : ¬starts i) (xs) (y : S1024x512.Idx) : ∃ p ∈ (runB (F := F) c i arg2 harg2 arg3 harg3 arg4 harg4 arg5 harg5 arg6 harg6 arg7 harg7 x0 x1 x2 hc xs).1, y ∈ p.1.set :=
  View.cover_of_tiledL _ ![1024, 512] (by sl_kernel_rfl) y

end Cert.Proof.MixIn

end
-- ==== Proof.MixInFrame.lean ====
module

public import proofs.«01_k».proof.Proof.MixInCover
public import proofs.«01_k».proof.Proof.Gen.MixInIdeal.Points
public import Idealize.ShloMosaic.Lib.Claim

@[expose] public section

set_option maxRecDepth 16384

noncomputable section

/-! The run of the kernel, with floats of any kind, and what it leaves named: the normalised rows and the product. The rows are
normalised at the first of the 10 points of a block and carried, in the scratch and in the first result's buffer,
to the last of them. -/

namespace Cert.Proof.MixIn

open Cert.MixInIdeal Cert.MixInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The points that start a block of rows. -/
theorem starts_iff : ∀ t : Fin cfg0.N, starts (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [starts, k0_cond1, e0, e1]
    word_cmp
   : ∀ t : Fin grid0.N, starts (grid0.coords t) ↔ t.val % 10 = 0)

theorem idle_iff (t : Fin cfg0.N) : cfg0.idle 3 (grid0.coords t) = !decide (starts (grid0.coords t)) := rfl

/-- The point that started the block of rows of a point. -/
def first (t : Fin cfg0.N) : Fin cfg0.N := ⟨t.val - t.val % 10, Nat.lt_of_le_of_lt (Nat.sub_le _ _) t.isLt⟩

theorem first_self (t : Fin cfg0.N) (h : t.val % 10 = 0) : first t = t := Fin.ext (by simp only [first]; omega)

theorem first_pred (t : Fin cfg0.N) (h : ¬t.val % 10 = 0) (h' : t.val - 1 < cfg0.N) : first ⟨t.val - 1, h'⟩ = first t :=
  Fin.ext (by simp only [first]; omega)

/-- The body's run at a point that starts a block of rows, and at any other, on the point's own buffers and blocks. -/
abbrev atStart (t : Fin cfg0.N) (h : starts (grid0.coords t)) := runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (iblk m c 0 t) (iblk m c 1 t) (iblk m c 2 t) h
abbrev atRest (t : Fin cfg0.N) (h : ¬starts (grid0.coords t)) (xs : Vec F S1024x2048 .bf16) := runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (iblk m c 0 t) (iblk m c 1 t) (iblk m c 2 t) h xs

theorem starts_first (t : Fin cfg0.N) : starts (grid0.coords (first t)) := (starts_iff _).mpr (by simp only [first]; omega)

/-- The normalised block of rows of a point: in the scratch, and in the first result. -/
def block (t : Fin cfg0.N) : Vec F S1024x2048 .bf16 := View.canon (atStart m c (first t) (starts_first t)).2.2.1
def block3 (t : Fin cfg0.N) : Vec F S1024x2048 .bf16 := View.canon (atStart m c (first t) (starts_first t)).1

/-- What a point leaves in result 1. -/
def out4 (t : Fin cfg0.N) : Vec F S1024x512 .f32 := if h : starts (grid0.coords t) then View.canon (atStart m c t h).2.1 else View.canon (atRest m c t h (block m c t)).1

theorem atStart_first (t : Fin cfg0.N) (hs : starts (grid0.coords t)) (h : first t = t) :
    block m c t = View.canon (atStart m c t hs).2.2.1 ∧ block3 m c t = View.canon (atStart m c t hs).1 := by
  have key : ∀ (u : Fin cfg0.N) (hu : starts (grid0.coords u)), u = t →
      View.canon (atStart m c u hu).2.2.1 = View.canon (atStart m c t hs).2.2.1
        ∧ View.canon (atStart m c u hu).1 = View.canon (atStart m c t hs).1 := by
    rintro u hu rfl; exact ⟨rfl, rfl⟩
  exact key _ (starts_first t) h

/-- The points of a block of rows share its normalised rows. -/
theorem block_of_first (t u : Fin cfg0.N) (h : first t = first u) : block m c t = block m c u ∧ block3 m c t = block3 m c u := by
  have key : ∀ (p q : Fin cfg0.N) (hp : starts (grid0.coords p)) (hq : starts (grid0.coords q)), p = q →
      View.canon (atStart m c p hp).2.2.1 = View.canon (atStart m c q hq).2.2.1
        ∧ View.canon (atStart m c p hp).1 = View.canon (atStart m c q hq).1 := by
    rintro p q hp hq rfl; exact ⟨rfl, rfl⟩
  exact key _ _ (starts_first t) (starts_first u) h

/-- What is kept between points: after the first point the scratch holds the block of rows of the point before. -/
def carried : (n : ℕ) → n ≤ cfg0.N → sProp 𝕄
  | 0, _ => Pipeline.ΦA spec0 c
  | n + 1, hn => iprop(owns (c : Thread nD τ) (Memref.whole cc0_scratch0) fullShare (block m c ⟨n, hn⟩) ∗ (∃ r, prngReg c r))

theorem carried_pos (n : ℕ) (h : n ≤ cfg0.N) (hz : n ≠ 0) :
    carried m c n h = iprop(owns (c : Thread nD τ) (Memref.whole cc0_scratch0) fullShare (block m c ⟨n - 1, by omega⟩) ∗ (∃ r, prngReg c r)) := by
  cases n with
  | zero => exact absurd rfl hz
  | succ n => rfl

/-- What the launch hands over, with the scratch as a buffer at some contents. -/
theorem launched_eq :
    (Pipeline.ΦA spec0 c : sProp 𝕄) = iprop(iprop(∃ d, owns (c : Thread nD τ) (Memref.whole cc0_scratch0) fullShare d) ∗ (∃ r, prngReg c r)) := by
  unfold Pipeline.ΦA; rw [scopedRest0_eq]; simp only [owns_whole]; try rfl

/-- Whatever is kept, the scratch is there at some contents. -/
theorem carried_any (n : ℕ) (h : n ≤ cfg0.N) : carried m c n h ⊢ Pipeline.ΦA spec0 c := by
  cases n with
  | zero => exact Entails.refl _
  | succ n =>
    rw [launched_eq]
    unfold carried
    iintro ⟨HS, Hg⟩
    isplitl [HS]
    · iexists _; iexact HS
    iexact Hg

/-- The proof data of the pipeline: each input's buffer at its block, the first result's at the rows of the point,
the products' at their tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block3 m c t
    | ⟨4, _⟩ => out4 m c t
  Φ t := carried m c t.val (Nat.le_of_lt_succ t.isLt)
  q _ := fullShare
  owed _ := 0

theorem A_eq (w : Fin cfg0.W) : (dats m 0 c).A w = V m c (Pipeline.arrRef spec0 w) := by
  dsimp only [dats]

theorem carried_castSucc (t : Fin cfg0.N) : (dats m 0 c).Φ t.castSucc = carried m c t.val (Nat.le_of_lt t.isLt) := by
  dsimp only [dats]; exact Pipeline.Dat.Φ_castSucc (carried m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = block3 m c t := by dsimp only [dats]
theorem after_4 (t : Fin cfg0.N) : (dats m 0 c).after 4 t = out4 m c t := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d

/-- At a point that does not start a block of rows, the first result's buffer holds the block's rows already. -/
theorem before_3 (n : ℕ) (hn : n < cfg0.N) (h : ¬n % 10 = 0) (d) : (dats m 0 c).before 3 ⟨n, hn⟩ d = block3 m c ⟨n, hn⟩ := by
  induction n with
  | zero => exact absurd rfl h
  | succ n ih =>
    have hn' : n < cfg0.N := Nat.lt_of_succ_lt hn
    have hb : block3 m c ⟨n, hn'⟩ = block3 m c ⟨n + 1, hn⟩ := (block_of_first m c _ _ (first_pred ⟨n + 1, hn⟩ h hn')).2
    have hfl : (cfg0.win 3).flush ⟨n, hn'⟩ = false :=
      Bool.eq_false_iff.mpr fun e => by have := (flush0_3 ⟨n, hn'⟩).mp e; simp only at this; omega
    refine ((dats m 0 c).before_of_pos 3 ⟨n + 1, hn⟩ (Nat.succ_ne_zero n) rfl d).trans ?_
    refine (if_neg (by rw [show (⟨(n + 1) - 1, Nat.lt_of_le_of_lt (Nat.sub_le _ _) hn⟩ : Fin cfg0.N) = ⟨n, hn'⟩ from rfl, hfl]; exact Bool.false_ne_true)).trans ?_
    refine Eq.trans ?_ hb
    show (dats m 0 c).left 3 ⟨n, hn'⟩ d = _
    unfold Dat.left
    by_cases h0 : n % 10 = 0
    · rw [show cfg0.idle 3 (cfg0.grid.coords ⟨n, hn'⟩) = false from by
        refine (idle_iff ⟨n, hn'⟩).trans ?_; rw [decide_eq_true ((starts_iff ⟨n, hn'⟩).mpr h0)]; rfl]
      exact ((Pipeline.fill_of_clip_none (cfg := cfg0) 3 _ (fun _ => rfl) d ((dats m 0 c).after 3 ⟨n, hn'⟩) _).trans (Pipeline.Window.fill_cut _ _ _)).trans (after_3 m c ⟨n, hn'⟩)
    · rw [show cfg0.idle 3 (cfg0.grid.coords ⟨n, hn'⟩) = true from by
        refine (idle_iff ⟨n, hn'⟩).trans ?_; rw [decide_eq_false (fun e => h0 ((starts_iff ⟨n, hn'⟩).mp e))]; rfl]
      exact ih hn' h0

/-- What the body is given at a point, and what it gives back. -/
def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def post (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- A window that is never idle is left at what the proof data says. -/
theorem leaves_live (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 3200000 in
/-- The body at a point that starts a block of rows. -/
theorem sound_start (t : Fin cfg0.N) (h : t.val % 10 = 0) :
    pre m c t ⊢ wp frame (wpE (defs₀ (F := F)) Variants.none c none) Set.univ (bodyAt0 t) (fun _ => post m c t) := by
  have hs : starts (grid0.coords t) := (starts_iff t).mpr h
  obtain ⟨hb, hb3⟩ := atStart_first m c t hs (first_self t h)
  unfold pre post bodyAt0
  simp only [before_0, before_1, before_2]
  rw [carried_castSucc]
  refine (sep_mono_left ((carried_any m c _ _).trans (by rw [launched_eq]))).trans ?_
  rw [show (dats m 0 c).owesAt () t.succ = (dats m 0 c).owesAt () t.castSucc from rfl]
  rw [show (dats m 0 c).Φ t.succ = iprop(owns (c : Thread nD τ) (Memref.whole cc0_scratch0) fullShare (block m c t) ∗ (∃ r, prngReg c r)) from rfl]
  rw [leaves_live m c 0 t rfl, after_0]
  rw [leaves_live m c 1 t rfl, after_1]
  rw [leaves_live m c 2 t rfl, after_2]
  rw [leaves_live m c 3 t (by rw [idle_iff, decide_eq_true hs]; rfl), after_3]
  rw [leaves_live m c 4 t rfl, after_4]
  rw [hb, hb3]
  rw [show out4 m c t = View.canon (atStart m c t hs).2.1 from dif_pos hs]
  iintro ⟨⟨HS, Hg⟩, Ho, ⟨%d0, H0⟩, ⟨%d1, H1⟩, ⟨%d2, H2⟩, ⟨%d3, H3⟩, ⟨%d4, H4⟩⟩
  iapply ((atStart m c t hs).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS Hg]
  · isplitl [HS]
    · unfold owns; iexists _; isplitr
      swap; · iexact HS
      ipureintro; exact View.read_writes_eq_canon _ _ _ (coverS c _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover3 c _ _ _ _ _ _ _ _ _ _ _ _ _ _ _ _ _)
  unfold owns; iexists _; isplitr
  swap; · iexact H4
  ipureintro; exact View.read_writes_eq_canon _ _ _ (cover4 c _ _ _ _ _ _ _ _ _ _ _ _ _ _ _ _ _)

set_option maxHeartbeats 3200000 in
/-- The body at any other point. -/
theorem sound_rest (t : Fin cfg0.N) (h : ¬t.val % 10 = 0) :
    pre m c t ⊢ wp frame (wpE (defs₀ (F := F)) Variants.none c none) Set.univ (bodyAt0 t) (fun _ => post m c t) := by
  have hs : ¬starts (grid0.coords t) := fun e => h ((starts_iff t).mp e)
  have hb : block m c ⟨t.val - 1, Nat.lt_of_le_of_lt (Nat.sub_le _ _) t.isLt⟩ = block m c t := (block_of_first m c _ _ (first_pred t h _)).1
  have hi : cfg0.idle 3 (grid0.coords t) = true := by rw [idle_iff, decide_eq_false hs]; rfl
  have hleave : owns (c : Thread nD τ) (st0_3 t) fullShare (block3 m c t) ⊢ (dats m 0 c).leavesExact 3 t := by
    cases hf : (cfg0.win 3).flush t with
    | false =>
      rw [Dat.leavesExact_idle (dats m 0 c) 3 t hi hf]
      simp only [before_3 m c t.val t.isLt h]
      iintro H
      iexists (block3 m c t); iexact H
    | true =>
      rw [show (dats m 0 c).leavesExact 3 t = owns (c : Thread nD τ) (st0_3 t) fullShare ((dats m 0 c).after 3 t) from by
        unfold Dat.leavesExact; rw [hi, hf], after_3]
  unfold pre post bodyAt0
  simp only [before_0, before_1, before_2, before_3 m c t.val t.isLt h]
  rw [carried_castSucc, carried_pos m c _ _ (fun e => h (by rw [e])), hb]
  rw [show (dats m 0 c).owesAt () t.succ = (dats m 0 c).owesAt () t.castSucc from rfl]
  rw [show (dats m 0 c).Φ t.succ = iprop(owns (c : Thread nD τ) (Memref.whole cc0_scratch0) fullShare (block m c t) ∗ (∃ r, prngReg c r)) from rfl]
  rw [leaves_live m c 0 t rfl, after_0]
  rw [leaves_live m c 1 t rfl, after_1]
  rw [leaves_live m c 2 t rfl, after_2]
  rw [leaves_live m c 4 t rfl, after_4]
  rw [show out4 m c t = View.canon (atRest m c t hs (block m c t)).1 from dif_neg hs]
  iintro ⟨⟨HS, Hg⟩, Ho, ⟨%d0, H0⟩, ⟨%d1, H1⟩, ⟨%d2, H2⟩, ⟨%d3, H3⟩, ⟨%d4, H4⟩⟩
  iapply ((atRest m c t hs (block m c t)).2 (block3 m c t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iapply hleave; iexact H3
  unfold owns; iexists _; isplitr
  swap; · iexact H4
  ipureintro; exact View.read_writes_eq_canon _ _ _ (coverB4 c _ _ _ _ _ _ _ _ _ _ _ _ _ _ _ _ _ _)

theorem body_row (t : Fin cfg0.N) :
    defs₀ (F := F) .tc cfg0.body (cfg0.bodyArgs t (cfg0.slots t)) = bodyAt0 t := by
  unfold defs₀; rw [Defs.onTc_tc]

/-- The body at every point. -/
theorem sound : BodyObligation (dats m 0 c) (defs₀ (F := F)) Variants.none () Set.univ := fun t => by
  rw [bigSep_W0, bigSep_W0, body_row]
  refine triple_restated (?_ : pre m c t ⊢ _) rfl .rfl fun _ => .rfl
  by_cases h : t.val % 10 = 0
  · exact sound_start m c t h
  · exact sound_rest m c t h

theorem enter : Pipeline.ΦA spec0 c ⊢ (dats m 0 c).Φ 0 := Entails.refl _

theorem leave : (dats m 0 c).Φ (Fin.last cfg0.N) ⊢ Pipeline.ΦA spec0 c := by
  rw [show (dats m 0 c).Φ (Fin.last cfg0.N) = carried m c cfg0.N (Nat.le_refl _) from rfl]
  exact carried_any m c _ _

set_option backward.isDefEq.respectTransparency.types false in
/-- The run: every array of the pipeline ends at what the proof data says, the counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (sound m c).loose) (hshare := fun c => (dats m 0 c).share_full fun _ => rfl)
    (howed := fun _ _ => rfl) (V := V m) (hmain := hmain m Variants.none) (hA := A_eq m) (hin := enter m) (hout := leave m)

/-- The arguments end unchanged. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.MixIn

end
-- ==== Proof.MixInBlock.lean ====
module

public import proofs.«01_k».proof.Proof.MixInCover
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! What one run of the body leaves, in closed form: the normalised block of rows, and the tile of the
product computed from it. -/

namespace Cert.Proof.MixIn

open Cert.MixInIdeal Cert.MixInIdeal.Gen Idealize.ShloMosaic Idealize.ShloMosaic.TcCoe

/-- The word of 2048, and the small constant under the root. -/
abbrev cols : EReal := Ideal.ofBits .f32 0x45000000#32
abbrev eps : EReal := Ideal.ofBits .f32 0x358637BD#32

/-- A normalised block of rows. -/
def rows (x0 : Vec Ideal S1024x2048 .f32) (x1 : Vec Ideal S1x2048 .f32) : Vec Ideal S1024x2048 .bf16 := fun j =>
  x0 j * Ideal.rsqrt (Ideal.div (∑ l : Fin 2048, x0 (ix2 (j 0) l) * x0 (ix2 (j 0) l)) cols + eps) * x1 (ix2 0 (j 1))

/-- A tile of the product. -/
def tile (h : Vec Ideal S1024x2048 .bf16) (w : Vec Ideal S2048x512 .bf16) : Vec Ideal S1024x512 .f32 := fun j =>
  ∑ k : Fin 2048, h (ix2 (j 0) k) * w (ix2 k (j 1))

end Cert.Proof.MixIn

end
-- ==== Proof.MixInRows.lean ====
module

public import proofs.«01_k».proof.Proof.MixInBlock
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The normalised block a starting point leaves. -/

namespace Cert.Proof.MixIn

open Cert.MixInIdeal Cert.MixInIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole)
  (arg5 : Memref sig .tc .vmem S1024x2048 .bf16) (harg5 : arg5.IsWhole) (arg6 : Memref sig .tc .vmem S1024x512 .f32) (harg6 : arg6.IsWhole)
  (arg7 : Memref sig .tc .vmem S1024x2048 .bf16) (harg7 : arg7.IsWhole)
  (x0 : Vec Ideal S1024x2048 .f32) (x1 : Vec Ideal S1x2048 .f32) (x2 : Vec Ideal S2048x512 .bf16)

/-- The normalised block, in the scratch and in the first result. -/
theorem canonS (hc : starts i) : View.canon (runA (F := Ideal) c i arg2 harg2 arg3 harg3 arg4 harg4 arg5 harg5 arg6 harg6 arg7 harg7 x0 x1 x2 hc).2.2.1 = rows x0 x1 := by
  funext j
  frame_open
  unfold rows
  canon_tiles x h
  all_goals (open_payloads; pointwise [Memref.IsWhole.read_unread]; blk_point [])
theorem canon3 (hc : starts i) : View.canon (runA (F := Ideal) c i arg2 harg2 arg3 harg3 arg4 harg4 arg5 harg5 arg6 harg6 arg7 harg7 x0 x1 x2 hc).1 = rows x0 x1 := by
  funext j
  frame_open
  unfold rows
  canon_tiles x h
  all_goals (open_payloads; pointwise [Memref.IsWhole.read_unread]; blk_point [])

end Cert.Proof.MixIn

end
-- ==== Proof.MixInStart.lean ====
module

public import proofs.«01_k».proof.Proof.MixInRows
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The tile a starting point leaves: its product reads the normalised block back from the scratch. -/

namespace Cert.Proof.MixIn

open Cert.MixInIdeal Cert.MixInIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole)
  (arg5 : Memref sig .tc .vmem S1024x2048 .bf16) (harg5 : arg5.IsWhole) (arg6 : Memref sig .tc .vmem S1024x512 .f32) (harg6 : arg6.IsWhole)
  (arg7 : Memref sig .tc .vmem S1024x2048 .bf16) (harg7 : arg7.IsWhole)
  (x0 : Vec Ideal S1024x2048 .f32) (x1 : Vec Ideal S1x2048 .f32) (x2 : Vec Ideal S2048x512 .bf16)

/-- What the product loads from the scratch. -/
theorem loadS (hc : starts i) :
    View.readCov (Val := Elt Ideal) arg7.view (runA (F := Ideal) c i arg2 harg2 arg3 harg3 arg4 harg4 arg5 harg5 arg6 harg6 arg7 harg7 x0 x1 x2 hc).2.2.1 (Rect.unit ![0, 0] S1024x2048.size inb_S1024x2048_S1024x2048_0_0).toLoadRect = rows x0 x1 := by
  rw [View.readCov_eq_canon_ld _ _ _ (coverS c i arg2 harg2 arg3 harg3 arg4 harg4 arg5 harg5 arg6 harg6 arg7 harg7 x0 x1 x2 hc), canonS]
  funext j
  blk_point []

theorem canon4 (hc : starts i) : View.canon (runA (F := Ideal) c i arg2 harg2 arg3 harg3 arg4 harg4 arg5 harg5 arg6 harg6 arg7 harg7 x0 x1 x2 hc).2.1 = tile (rows x0 x1) x2 := by
  have hs : runA.sl.v3 (F := Ideal) c arg2 harg2 arg3 harg3 arg7 x0 x1 = rows x0 x1 := loadS c i arg2 harg2 arg3 harg3 arg4 harg4 arg5 harg5 arg6 harg6 arg7 harg7 x0 x1 x2 hc
  unfold runA
  dsimp only
  rw [hs]
  clear hs
  funext j
  frame_open
  frame_out
  unfold tile
  pointwise [k0_pay2]

end Cert.Proof.MixIn

end
-- ==== Proof.MixInRest.lean ====
module

public import proofs.«01_k».proof.Proof.MixInBlock
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The tile a point leaves that does not start a block of rows. -/

namespace Cert.Proof.MixIn

open Cert.MixInIdeal Cert.MixInIdeal.Gen Idealize.ShloMosaic Idealize.ShloMosaic.TcCoe

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole)
  (arg5 : Memref sig .tc .vmem S1024x2048 .bf16) (harg5 : arg5.IsWhole) (arg6 : Memref sig .tc .vmem S1024x512 .f32) (harg6 : arg6.IsWhole)
  (arg7 : Memref sig .tc .vmem S1024x2048 .bf16) (harg7 : arg7.IsWhole)
  (x0 : Vec Ideal S1024x2048 .f32) (x1 : Vec Ideal S1x2048 .f32) (x2 : Vec Ideal S2048x512 .bf16)

theorem canonB4 (hc : ¬starts i) (xs) : View.canon (runB (F := Ideal) c i arg2 harg2 arg3 harg3 arg4 harg4 arg5 harg5 arg6 harg6 arg7 harg7 x0 x1 x2 hc xs).1 = tile xs x2 := by
  funext j
  frame_out
  unfold tile
  pointwise [k0_pay2]

end Cert.Proof.MixIn

end
-- ==== Proof.MixInLeft.lean ====
module

public import proofs.«01_k».proof.Proof.MixInFrame
public import proofs.«01_k».proof.Proof.MixInStart
public import proofs.«01_k».proof.Proof.MixInRest

@[expose] public section

set_option maxRecDepth 16384

noncomputable section

/-! What the run leaves at a point, over the reals: the normalised rows of the block, and the tile of the product. -/

namespace Cert.Proof.MixIn

open Cert.MixInIdeal Cert.MixInIdeal.Gen Idealize.ShloMosaic Idealize.ShloMosaic.TcCoe

variable (m : (ℓ : Loc nD τ sig) → Buf (Elt Ideal) ℓ) (c : Dev nD) (t : Fin cfg0.N)

theorem block_eq : block m c t = rows (iblk m c 0 (first t)) (iblk m c 1 (first t)) := canonS ..
theorem block3_eq : block3 m c t = rows (iblk m c 0 (first t)) (iblk m c 1 (first t)) := canon3 ..

theorem block_start (h : starts (grid0.coords t)) : rows (iblk m c 0 t) (iblk m c 1 t) = block m c t := by
  rw [block_eq, first_self t ((starts_iff t).mp h)]

theorem out4_eq : out4 m c t = tile (block m c t) (iblk m c 2 t) := by
  unfold out4; split
  · rename_i h; rw [← block_start m c t h]; exact canon4 ..
  · exact canonB4 ..

end Cert.Proof.MixIn

end
-- ==== Proof.MixIn.lean ====
module

public import proofs.«01_k».proof.Proof.MixInLeft
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The two results of the projection into the mixer as whole arrays: the normalised rows, and their product with
the weight. -/

namespace Cert.Proof.MixIn

open Cert.MixInIdeal Cert.MixInIdeal.Gen Idealize.ShloMosaic Idealize.ShloMosaic.TcCoe Idealize.SL.Sem

/-- Every row divided by its root mean square, times the gain. -/
def norm (x : Vec Ideal S8192x2048 .f32) (g : Vec Ideal S1x2048 .f32) : Vec Ideal S8192x2048 .f32 := fun i =>
  x i * Ideal.rsqrt (Ideal.div (∑ l : Fin 2048, x (ix2 (i 0) l) * x (ix2 (i 0) l)) cols + eps) * g (ix2 0 (i 1))

/-- Its product with a weight. -/
def prod (x : Vec Ideal S8192x2048 .f32) (g : Vec Ideal S1x2048 .f32) (w : Vec Ideal S2048x5120 .f32) (i : S8192x5120.Idx) : EReal :=
  ∑ k : Fin 2048, norm x g (ix2 (i 0) k) * w (ix2 k (i 1))

variable (m : (ℓ : Loc nD τ sig) → Buf (Elt Ideal) ℓ) (c : Dev nD)

theorem idx : ∀ t : Fin cfg0.N, win0_0.index (first t) = ![t.val / 10, 0] ∧ win0_1.index (first t) = ![0, 0]
    ∧ win0_2.index t = ![0, t.val % 10] ∧ win0_3.index t = ![t.val / 10, 0] ∧ win0_4.index t = ![t.val / 10, t.val % 10] :=
  (by decide +kernel : ∀ t : Fin grid0.N, _)

/-- A block of rows is the rows of the whole array. -/
theorem block_apply (t : Fin cfg0.N) (a : Fin 1024) (k : Fin 2048) (i : S8192x5120.Idx) (h : (i 0).val = t.val / 10 * 1024 + a.val) :
    block m c t (ix2 a k) = norm (m ((c : Thread nD τ).loc main_arg0)) (m ((c : Thread nD τ).loc main_arg1)) (ix2 (i 0) k) := by
  rw [block_eq]
  unfold rows norm
  blk_point [iblk, V, idx t]

theorem value_rows : (dats m 0 c).arrAt 3 cfg0.N
    = norm (m ((c : Thread nD τ).loc main_arg0)) (m ((c : Thread nD τ).loc main_arg1)) := by
  refine (dats m 0 c).arrAt_eq_of_covers 3 _ (by decide +kernel) fun t hf y => ?_
  blk_simp
  rw [after_3, block3_eq]
  unfold rows norm
  blk_point [iblk, V, idx t]

theorem value_prod : (dats m 0 c).arrAt 4 cfg0.N
    = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4, out4_eq]
  unfold tile prod
  refine Finset.sum_congr (M := EReal) rfl fun k _ => congrArg₂ (· * ·) (block_apply m c t _ k _ ?_) ?_
  · blk_point [idx t]
  · blk_point [iblk, V, idx t]

/-- The run: the two results at what the proof data says, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1 c).1 3, (h.1.1 c).1 4, h.2.1 c⟩)
    (θ_run_and (run_quiescent m ρ) (run_frame m ρ))

end Cert.Proof.MixIn

end
-- ==== Proof.MixInClaim.lean ====
module

public import proofs.«01_k».proof.Defs
public import proofs.«01_k».proof.Proof.MixIn
public import proofs.«01_k».proof.Proof.Gen.MixInRefIdeal.Read

@[expose] public section

set_option maxRecDepth 16384

noncomputable section

/-! The two results of the reference are those of the kernel. -/

namespace Cert.Proof.MixIn

open Idealize.ShloMosaic Idealize.ShloMosaic.TcCoe Idealize.SL.Sem

variable (x : Vec Ideal Cert.MixInIdeal.S8192x2048 .f32) (g : Vec Ideal Cert.MixInIdeal.S1x2048 .f32) (w : Vec Ideal Cert.MixInIdeal.S2048x5120 .f32)

theorem reference_rows (i : Cert.MixInIdeal.S8192x2048.Idx) : Cert.MixInRefIdeal.Read.val_main_v11 (F := Ideal) x g i = norm x g i := by
  unfold norm
  pointwise [Cert.MixInRefIdeal.Read.val_main_v0, Cert.MixInRefIdeal.Read.val_main_cst, Cert.MixInRefIdeal.Read.val_main_v1, Cert.MixInRefIdeal.Read.val_main_v2,
    Cert.MixInRefIdeal.Read.val_main_cst_0, Cert.MixInRefIdeal.Read.val_main_v3, Cert.MixInRefIdeal.Read.val_main_v4, Cert.MixInRefIdeal.Read.val_main_cst_1,
    Cert.MixInRefIdeal.Read.val_main_v5, Cert.MixInRefIdeal.Read.val_main_v6, Cert.MixInRefIdeal.Read.val_main_v7, Cert.MixInRefIdeal.Read.val_main_v8,
    Cert.MixInRefIdeal.Read.val_main_v9, Cert.MixInRefIdeal.Read.val_main_v10, Cert.MixInRefIdeal.Read.val_main_v11]

theorem reference_prod (i : Cert.MixInIdeal.S8192x5120.Idx) : Cert.MixInRefIdeal.Read.val_main_v13 (F := Ideal) x g w i = prod x g w i := by
  unfold prod
  rw [Cert.MixInRefIdeal.Read.val_main_v13_apply]
  refine Finset.sum_congr (M := EReal) rfl fun k _ => ?_
  rw [reference_rows]
  exact congrArg₂ (fun a b => norm x g a * w b) (funext fun | 0 => rfl | 1 => rfl) (funext fun | 0 => rfl | 1 => rfl)

theorem algebraic : Cert.algebraic_MixInIdeal_MixInRefIdeal (hMixInIdeal := Cert.MixInIdeal.Gen.facts) (hMixInRefIdeal := Cert.MixInRefIdeal.Gen.facts) := by
  intro m ρ m' ρ' _ hagree
  refine ⟨fun c => (dats m 0 c).arrAt 3 Cert.MixInIdeal.cfg0.N, fun c => (dats m 0 c).arrAt 4 Cert.MixInIdeal.cfg0.N, run_values m ρ, ?_⟩
  refine (θ_run _ _ _).mono (fun r h c => ⟨(h c).1.trans ?_, (h c).2.1.trans ?_, (h c).2.2⟩) (Cert.MixInRefIdeal.Value.run (F := Ideal) m' ρ')
  · rw [(hagree c).1, (hagree c).2.1, show (fun c => (dats m 0 c).arrAt 3 Cert.MixInIdeal.cfg0.N) c = _ from value_rows m c]
    exact (Cert.MixInRefIdeal.Read.val_main_v12_eq _ _).trans (funext fun i => reference_rows _ _ i)
  · rw [(hagree c).1, (hagree c).2.1, (hagree c).2.2, show (fun c => (dats m 0 c).arrAt 4 Cert.MixInIdeal.cfg0.N) c = _ from value_prod m c]
    exact (Cert.MixInRefIdeal.Read.val_main_v13_eq _ _ _).trans (funext fun i => reference_prod _ _ _ i)

end Cert.Proof.MixIn

end
-- ==== Proof.Down.lean ====
module

public import proofs.«01_k».proof.Proof.Gen.DownIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The down projection of the first FFN. A block of rows is swept in four blocks of the hidden axis: the
accumulator starts at zero, each point adds its block's product, and the last point writes the residual
plus half of the accumulator. -/

namespace Cert.Proof.Down

open Cert.DownIdeal Cert.DownIdeal.Gen Cert.DownIdeal.Value Idealize.ShloMosaic Idealize.ShloMosaic.TcCoe Idealize.SL.Sem

/-- The product of two matrices. -/
def prod (A : Vec Ideal S8192x5632 .f32) (B : Vec Ideal S5632x2048 .f32) (i : S8192x2048.Idx) : EReal :=
  ∑ l : Fin 5632, A (ix2 (i 0) l) * B (ix2 l (i 1))

/-- The residual stream plus the scaled product. -/
def out (A : Vec Ideal S8192x5632 .f32) (B : Vec Ideal S5632x2048 .f32) (X : Vec Ideal S8192x2048 .f32) (i : S8192x2048.Idx) : EReal :=
  X i + Ideal.ofBits .f32 0x3F000000#32 * prod A B i

variable (m : (ℓ : Loc nD τ sig) → Buf (Elt Ideal) ℓ)

/-- What one point adds to the accumulator. -/
def part (x0 : Vec Ideal S512x1408 .bf16) (x1 : Vec Ideal S1408x2048 .bf16) (j : S512x2048.Idx) : EReal :=
  ∑ k : Fin 1408, x0 (ix2 (j 0) k) * x1 (ix2 k (j 1))

/-- What the last point writes: the residual block plus the scaled accumulator. -/
def res (x2 acc : Vec Ideal S512x2048 .f32) (j : S512x2048.Idx) : EReal := x2 j + Ideal.ofBits .f32 0x3F000000#32 * acc j

theorem stepA (c : Dev nD) (t : Fin cfg0.N) (h0 : t.val % 4 = 0) (j : S512x2048.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  unfold part
  pointwise [k0_pay2, k0_pay1]

theorem stepB (c : Dev nD) (t : Fin cfg0.N) (h0 : ¬t.val % 4 = 0) (j : S512x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h1 : t.val % 4 = 3
  · rw [outsAt0_C m c t h0 h1]
    frame_out
    simp only [read_unread_whole]
    unfold part
    pointwise [k0_pay2]
  · rw [outsAt0_B m c t h0 h1]
    frame_out
    simp only [read_unread_whole]
    unfold part
    pointwise [k0_pay2]

theorem lastC (c : Dev nD) (t : Fin cfg0.N) (h1 : t.val % 4 = 3) (j : S512x2048.Idx) :
    (outsAt0 m c t.val t.isLt).1 j = res (iblk m c 2 t) (outsAt0 m c t.val t.isLt).2 j := by
  rw [outsAt0_C m c t (by omega) h1]
  frame_out
  simp (disch := decide) only [View.readCov_fill, read_unread_whole]
  generalize k0_pay2 (F := Ideal) _ _ _ = acc
  unfold res
  canon_tiles x h
  all_goals (open_payloads; pointwise; blk_point [])

theorem idx : ∀ t : Fin cfg0.N, win0_0.index t = ![t.val / 4, t.val % 4] ∧ win0_1.index t = ![t.val % 4, 0]
    ∧ win0_2.index t = ![t.val / 4, 0] ∧ win0_3.index t = ![t.val / 4, 0] :=
  (by decide +kernel : ∀ t : Fin grid0.N, _)

theorem value (c : Dev nD) : G3 m c = fun i => out (m ((c : Thread nD τ).loc main_arg0)) (m ((c : Thread nD τ).loc main_arg1))
    (m ((c : Thread nD τ).loc main_arg2)) i := by
  rw [← final3]
  refine (dats m 0 c).arrAt_eq_of_covers 3 _ (by decide +kernel) fun t hf y => ?_
  blk_simp
  rw [after0_3, lastC m c t ((flush0_3 t).mp hf)]
  unfold res
  rw [Pipeline.eq_sum_fin_of_reset_step_apply_of_flush (fun n h => (outsAt0 m c n h).2) 4 (fun _ => 0)
    (fun p j => part (iblk m c 0 p) (iblk m c 1 p) j) (fun t h j => stepA m c t h j) (fun t h j => stepB m c t h j) t ((flush0_3 t).mp hf) _, zero_add]
  unfold out prod part
  refine congrArg₂ (· + ·) (by blk_point [iblk, V, idx t]) ?_
  refine congrArg _ ?_
  refine Fin.sum_mul_add_congr fun s k hl => ?_
  have i1 := idx ⟨_, Pipeline.run_point_lt_of_flush t ((flush0_3 t).mp hf) s⟩
  blk_point [iblk, V, idx t, i1]

end Cert.Proof.Down
end
-- ==== Proof.DownClaim.lean ====
module

public import proofs.«01_k».proof.Defs
public import proofs.«01_k».proof.Proof.Down
public import proofs.«01_k».proof.Proof.Gen.DownRefIdeal.Read

@[expose] public section

set_option maxRecDepth 16384

noncomputable section

namespace Cert.Proof.Down

open Idealize.ShloMosaic Idealize.ShloMosaic.TcCoe Idealize.SL.Sem

theorem reference (A : Vec Ideal Cert.DownIdeal.S8192x5632 .f32) (B : Vec Ideal Cert.DownIdeal.S5632x2048 .f32) (X : Vec Ideal Cert.DownIdeal.S8192x2048 .f32)
    (i : Cert.DownIdeal.S8192x2048.Idx) : Cert.DownRefIdeal.Read.val_main_v3 (F := Ideal) A B X i = out A B X i := by
  unfold out prod
  pointwise [Cert.DownRefIdeal.Read.val_main_v3, Cert.DownRefIdeal.Read.val_main_v2, Cert.DownRefIdeal.Read.val_main_v1, Cert.DownRefIdeal.Read.val_main_v0, Cert.DownRefIdeal.Read.val_main_cst]

theorem algebraic : Cert.algebraic_DownIdeal_DownRefIdeal (hDownIdeal := Cert.DownIdeal.Gen.facts) (hDownRefIdeal := Cert.DownRefIdeal.Gen.facts) := by
  intro m g m' g' _ hagree
  refine ⟨fun c => Cert.DownIdeal.Value.G3 m c, Cert.DownIdeal.Value.run m g, ?_⟩
  refine (θ_run _ _ _).mono (fun r h c => ⟨(h c).1.trans ?_, (h c).2⟩) (Cert.DownRefIdeal.Value.run (F := Ideal) m' g')
  rw [(hagree c).1, (hagree c).2.1, (hagree c).2.2, show (fun c => Cert.DownIdeal.Value.G3 m c) c = _ from value m c]
  exact (Cert.DownRefIdeal.Read.val_main_v3_eq _ _ _).trans (funext fun i => reference _ _ _ i)

end Cert.Proof.Down

end
-- ==== Proof.LossHead.lean ====
module

public import proofs.«01_k».proof.Proof.Gen.LossHeadIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The down projection of the second FFN with the loss head: what one point leaves in the accumulator and in the
three results. -/

namespace Cert.Proof.LossHead

open Cert.LossHeadIdeal Cert.LossHeadIdeal.Gen Cert.LossHeadIdeal.Value Idealize.ShloMosaic Idealize.ShloMosaic.TcCoe Idealize.SL.Sem

variable (m : (ℓ : Loc nD τ sig) → Buf (Elt Ideal) ℓ)

/-- What one point adds to the accumulator. -/
def part (x0 : Vec Ideal S512x1408 .bf16) (x1 : Vec Ideal S1408x2048 .bf16) (j : S512x2048.Idx) : EReal :=
  ∑ k : Fin 1408, x0 (ix2 (j 0) k) * x1 (ix2 k (j 1))

/-- The block of the layer's output, less the target's block. -/
def err (x2 x3 acc : Vec Ideal S512x2048 .f32) (j : S512x2048.Idx) : EReal := x2 j + Ideal.ofBits .f32 0x3F000000#32 * acc j - x3 j

/-- The word of 1/2048. -/
abbrev inv : EReal := Ideal.ofBits .f32 0x3A000000#32

theorem stepA (c : Dev nD) (t : Fin cfg0.N) (h0 : t.val % 4 = 0) (j : S512x2048.Idx) :
    (outsAt0 m c t.val t.isLt).2.2.2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  unfold part
  pointwise [k0_pay2, k0_pay1]

theorem stepB (c : Dev nD) (t : Fin cfg0.N) (h0 : ¬t.val % 4 = 0) (j : S512x2048.Idx) :
    (outsAt0 m c t.val t.isLt).2.2.2 j = (outsAt0 m c (t.val - 1) (Nat.lt_of_le_of_lt (Nat.sub_le _ _) t.isLt)).2.2.2 j
      + part (iblk m c 0 t) (iblk m c 1 t) j := by
  by_cases h1 : t.val % 4 = 3
  · by_cases h2 : t.val < 4
    · rw [outsAt0_C m c t h0 h1 h2 (by omega)]
      frame_out
      simp only [read_unread_whole]
      unfold part
      pointwise [k0_pay2]
    · rw [outsAt0_D m c t h0 h1 h2 (by omega)]
      frame_out
      simp only [read_unread_whole]
      unfold part
      pointwise [k0_pay2]
  · rw [outsAt0_B m c t h0 h1]
    frame_out
    simp only [read_unread_whole]
    unfold part
    pointwise [k0_pay2]

theorem last4 (c : Dev nD) (t : Fin cfg0.N) (h1 : t.val % 4 = 3) (j : S512x2048.Idx) :
    (outsAt0 m c t.val t.isLt).1 j = err (iblk m c 2 t) (iblk m c 3 t) (outsAt0 m c t.val t.isLt).2.2.2 j * inv := by
  by_cases h2 : t.val < 4
  · rw [outsAt0_C m c t (by omega) h1 h2 (by omega)]
    frame_out
    simp (disch := decide) only [View.readCov_fill, read_unread_whole]
    generalize k0_pay2 (F := Ideal) _ _ _ = acc
    unfold err
    canon_tiles x h
    all_goals (open_payloads; pointwise; blk_point [])
  · rw [outsAt0_D m c t (by omega) h1 h2 (by omega)]
    frame_out
    simp (disch := decide) only [View.readCov_fill, read_unread_whole]
    generalize k0_pay2 (F := Ideal) _ _ _ = acc
    unfold err
    canon_tiles x h
    all_goals (open_payloads; pointwise; blk_point [])

theorem last5 (c : Dev nD) (t : Fin cfg0.N) (h1 : t.val % 4 = 3) (j : S512x2048.Idx) :
    (outsAt0 m c t.val t.isLt).2.1 j = err (iblk m c 2 t) (iblk m c 3 t) (outsAt0 m c t.val t.isLt).2.2.2 j * inv := by
  by_cases h2 : t.val < 4
  · rw [outsAt0_C m c t (by omega) h1 h2 (by omega)]
    frame_out
    simp (disch := decide) only [View.readCov_fill, read_unread_whole]
    generalize k0_pay2 (F := Ideal) _ _ _ = acc
    unfold err
    canon_tiles x h
    all_goals (open_payloads; pointwise; blk_point [])
  · rw [outsAt0_D m c t (by omega) h1 h2 (by omega)]
    frame_out
    simp (disch := decide) only [View.readCov_fill, read_unread_whole]
    generalize k0_pay2 (F := Ideal) _ _ _ = acc
    unfold err
    canon_tiles x h
    all_goals (open_payloads; pointwise; blk_point [])

end Cert.Proof.LossHead
end
-- ==== Proof.LossSum.lean ====
module

public import proofs.«01_k».proof.Proof.LossHead

@[expose] public section

set_option maxRecDepth 16384

noncomputable section

namespace Cert.Proof.LossHead

open Cert.LossHeadIdeal Cert.LossHeadIdeal.Gen Cert.LossHeadIdeal.Value Idealize.ShloMosaic Idealize.ShloMosaic.TcCoe Idealize.SL.Sem

variable (m : (ℓ : Loc nD τ sig) → Buf (Elt Ideal) ℓ)

/-- A row of a block, numbered strip by strip. -/
def row (s : ℕ) (k : Fin 16) : Fin 512 := ⟨(s * 16 + k.val) % 512, Nat.mod_lt _ (by decide)⟩

theorem row_eq {s : ℕ} (hs : s < 32) (k : Fin 16) : row s k = ⟨s * 16 + k.val, by have := k.isLt; omega⟩ :=
  Fin.ext (by have := k.isLt; exact Nat.mod_eq_of_lt (by omega))

theorem row_zero (k : Fin 16) : row 0 k = ⟨k.val, by have := k.isLt; omega⟩ :=
  Fin.ext (by have := k.isLt; show (0 * 16 + k.val) % 512 = k.val; omega)

/-- The column sums of the squared error over one block of rows. -/
def sq (x2 x3 acc : Vec Ideal S512x2048 .f32) (j : S1x2048.Idx) : EReal :=
  ∑ r : Fin 512, err x2 x3 acc (ix2 r (j 1)) * err x2 x3 acc (ix2 r (j 1))

/-- The same sums, as the strips are added. -/
theorem sq_strips (x2 x3 acc : Vec Ideal S512x2048 .f32) (j : S1x2048.Idx) :
    sq x2 x3 acc j = ∑ s ∈ Finset.range 32, ∑ k : Fin 16, err x2 x3 acc (ix2 (row s k) (j 1)) * err x2 x3 acc (ix2 (row s k) (j 1)) := by
  rw [Finset.sum_range]
  refine (Fin.sum_mul_add_congr fun s k hl => ?_).symm
  rw [row_eq s.isLt k]

/-- The first block of rows starts the column sums. -/
theorem first6 (c : Dev nD) (t : Fin cfg0.N) (h1 : t.val % 4 = 3) (h2 : t.val < 4) (j : S1x2048.Idx) :
    (outsAt0 m c t.val t.isLt).2.2.1 j = sq (iblk m c 2 t) (iblk m c 3 t) (outsAt0 m c t.val t.isLt).2.2.2 j := by
  rw [sq_strips, outsAt0_C m c t (by omega) h1 h2 (by omega)]
  frame_out
  simp (disch := decide) only [View.readCov_fill, read_unread_whole]
  generalize k0_pay2 (F := Ideal) _ _ _ = acc
  simp only [Finset.sum_range_succ, Finset.sum_range_zero]
  open_payloads
  pointwise
  iterate 31 (refine congrArg₂ (· + ·) ?_ ?_)
  · refine Fin.sum_fin_congr fun k => ?_; rw [row_zero k]; rfl
  all_goals (refine Fin.sum_fin_congr fun k => ?_; rw [row_eq (by decide) k]; rfl)

/-- Each further block adds to them. -/
theorem more6 (c : Dev nD) (t : Fin cfg0.N) (h1 : t.val % 4 = 3) (h2 : ¬t.val < 4) (j : S1x2048.Idx) :
    (outsAt0 m c t.val t.isLt).2.2.1 j = (outsAt0 m c (t.val - 1) (Nat.lt_of_le_of_lt (Nat.sub_le _ _) t.isLt)).2.2.1 j
      + sq (iblk m c 2 t) (iblk m c 3 t) (outsAt0 m c t.val t.isLt).2.2.2 j := by
  rw [sq_strips, outsAt0_D m c t (by omega) h1 h2 (by omega)]
  frame_out
  simp (disch := decide) only [View.readCov_fill, read_unread_whole]
  generalize k0_pay2 (F := Ideal) _ _ _ = acc
  simp only [Finset.sum_range_succ, Finset.sum_range_zero]
  open_payloads
  pointwise
  refine congrArg _ ?_
  iterate 31 (refine congrArg₂ (· + ·) ?_ ?_)
  · refine Fin.sum_fin_congr fun k => ?_; rw [row_zero k]; rfl
  all_goals (refine Fin.sum_fin_congr fun k => ?_; rw [row_eq (by decide) k]; rfl)

/-- The other points leave them. -/
theorem keep6 (c : Dev nD) (t : Fin cfg0.N) (h1 : ¬t.val % 4 = 3) (j : S1x2048.Idx) :
    (outsAt0 m c t.val t.isLt).2.2.1 j = (outsAt0 m c (t.val - 1) (Nat.lt_of_le_of_lt (Nat.sub_le _ _) t.isLt)).2.2.1 j := by
  by_cases h0 : t.val % 4 = 0
  · rw [outsAt0_A m c t h0 h1]; rfl
  · rw [outsAt0_B m c t h0 h1]; rfl

/-- The column sums of the row block `i`, as its last point finds them. -/
def sums (c : Dev nD) (j : S1x2048.Idx) (i : ℕ) : EReal :=
  if h : 4 * i + 3 < cfg0.N then sq (iblk m c 2 ⟨4 * i + 3, h⟩) (iblk m c 3 ⟨4 * i + 3, h⟩) (outsAt0 m c (4 * i + 3) h).2.2.2 j else 0

theorem sums_of (c : Dev nD) (j : S1x2048.Idx) (t : Fin cfg0.N) (h1 : t.val % 4 = 3) :
    sums m c j (t.val / 4) = sq (iblk m c 2 t) (iblk m c 3 t) (outsAt0 m c t.val t.isLt).2.2.2 j := by
  have e : (⟨4 * (t.val / 4) + 3, by have := t.isLt; omega⟩ : Fin cfg0.N) = t := Fin.ext (by show 4 * (t.val / 4) + 3 = t.val; omega)
  unfold sums
  rw [dif_pos (by have := t.isLt; omega)]
  exact congrArg (fun t : Fin cfg0.N => sq (iblk m c 2 t) (iblk m c 3 t) (outsAt0 m c t.val t.isLt).2.2.2 j) e

/-- From the first block's last point on, the third result holds the sums of the blocks finished so far. -/
theorem sofar (c : Dev nD) (j : S1x2048.Idx) : ∀ (n : ℕ) (h : n < cfg0.N), 3 ≤ n →
    (outsAt0 m c n h).2.2.1 j = ∑ i ∈ Finset.range ((n + 1) / 4), sums m c j i := by
  intro n
  induction n with
  | zero => intro _ h; omega
  | succ n ih =>
    intro h h3
    by_cases h1 : (n + 1) % 4 = 3
    · have es := sums_of m c j ⟨n + 1, h⟩ h1
      rw [show (n + 1 + 1) / 4 = (n + 1) / 4 + 1 by omega, Finset.sum_range_succ, show sums m c j ((n + 1) / 4) = _ from es]
      by_cases h2 : n + 1 < 4
      · rw [show (n + 1) / 4 = 0 by omega, Finset.sum_range_zero, zero_add]
        exact first6 m c ⟨n + 1, h⟩ h1 h2 j
      · rw [← ih (by omega) (by omega)]
        exact more6 m c ⟨n + 1, h⟩ h1 h2 j
    · rw [show (n + 1 + 1) / 4 = (n + 1) / 4 by omega, ← ih (by omega) (by omega)]
      exact keep6 m c ⟨n + 1, h⟩ h1 j

end Cert.Proof.LossHead
end
-- ==== Proof.LossValue.lean ====
module

public import proofs.«01_k».proof.Proof.LossSum

@[expose] public section

set_option maxRecDepth 16384

noncomputable section

/-! What the three results hold after the run: the gradient of the loss at the layer's output, twice, and the column
sums of the squared error. -/

namespace Cert.Proof.LossHead

open Cert.LossHeadIdeal Cert.LossHeadIdeal.Gen Cert.LossHeadIdeal.Value Idealize.ShloMosaic Idealize.ShloMosaic.TcCoe Idealize.SL.Sem

/-- The product of two matrices. -/
def prod (A : Vec Ideal S8192x5632 .f32) (B : Vec Ideal S5632x2048 .f32) (i : S8192x2048.Idx) : EReal :=
  ∑ l : Fin 5632, A (ix2 (i 0) l) * B (ix2 l (i 1))

/-- The layer's output, less the target. -/
def diff (A : Vec Ideal S8192x5632 .f32) (B : Vec Ideal S5632x2048 .f32) (X T : Vec Ideal S8192x2048 .f32) (i : S8192x2048.Idx) : EReal :=
  X i + Ideal.ofBits .f32 0x3F000000#32 * prod A B i - T i

variable (m : (ℓ : Loc nD τ sig) → Buf (Elt Ideal) ℓ)

/-- The difference over the arrays of a memory. -/
abbrev diffOf (c : Dev nD) : S8192x2048.Idx → EReal :=
  diff (m ((c : Thread nD τ).loc main_arg0)) (m ((c : Thread nD τ).loc main_arg1)) (m ((c : Thread nD τ).loc main_arg2)) (m ((c : Thread nD τ).loc main_arg3))

theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![t.val / 4, 0] ∧ win0_5.index t = ![t.val / 4, 0] ∧ win0_6.index t = ![0, 0] :=
  (by decide +kernel : ∀ t : Fin grid0.N, _)

/-- The block's row `r` at point `t`, as a row of the array. -/
def at0 (t : Fin cfg0.N) (j : S512x2048.Idx) : S8192x2048.Idx :=
  ix2 ⟨t.val / 4 * 512 + (j 0).val, by have h : t.val < 64 := t.isLt; have : (j 0).val < 512 := (j 0).isLt; omega⟩ (j 1)

/-- A block's error at its last point is the difference there. -/
theorem err_eq (c : Dev nD) (t : Fin cfg0.N) (h1 : t.val % 4 = 3) (j : S512x2048.Idx) :
    err (iblk m c 2 t) (iblk m c 3 t) (outsAt0 m c t.val t.isLt).2.2.2 j = diffOf m c (at0 t j) := by
  unfold err
  rw [Pipeline.eq_sum_fin_of_reset_step_apply_of_flush (fun n h => (outsAt0 m c n h).2.2.2) 4 (fun _ => 0)
    (fun p j => part (iblk m c 0 p) (iblk m c 1 p) j) (fun t h j => stepA m c t h j) (fun t h j => stepB m c t h j) t h1 _, zero_add]
  unfold diffOf diff prod part at0
  refine congrArg₂ (· - ·) (congrArg₂ (· + ·) (by blk_point [iblk, V, idx t]) ?_) (by blk_point [iblk, V, idx t])
  refine congrArg _ ?_
  refine Fin.sum_mul_add_congr fun s k hl => ?_
  have i1 := idx ⟨_, Pipeline.run_point_lt_of_flush t h1 s⟩
  blk_point [iblk, V, idx t, i1]

theorem value4 (c : Dev nD) : G4 m c = fun i => diffOf m c i * inv := by
  rw [← final4]
  refine (dats m 0 c).arrAt_eq_of_covers 4 _ (by decide +kernel) fun t hf y => ?_
  blk_simp
  rw [after0_4, last4 m c t ((flush0_4 t).mp hf), err_eq m c t ((flush0_4 t).mp hf)]
  refine congrArg (fun i => diffOf m c i * inv) ?_
  unfold at0
  blk_point [idx t]

theorem value5 (c : Dev nD) : G5 m c = fun i => diffOf m c i * inv := by
  rw [← final5]
  refine (dats m 0 c).arrAt_eq_of_covers 5 _ (by decide +kernel) fun t hf y => ?_
  blk_simp
  rw [after0_5, last5 m c t ((flush0_5 t).mp hf), err_eq m c t ((flush0_5 t).mp hf)]
  refine congrArg (fun i => diffOf m c i * inv) ?_
  unfold at0
  blk_point [idx t]

/-- The column sums over all rows. -/
theorem total (c : Dev nD) (j : S1x2048.Idx) :
    (outsAt0 m c 63 (lt_of_lt_of_eq (by decide) N_0.symm)).2.2.1 j = ∑ r : Fin 8192, diffOf m c (ix2 r (j 1)) * diffOf m c (ix2 r (j 1)) := by
  rw [sofar m c j 63 _ (by decide), show (63 + 1) / 4 = 16 from rfl, Finset.sum_range]
  have hs : ∀ s : Fin 16, sums m c j s.val = ∑ r : Fin 512, diffOf m c (ix2 ⟨s.val * 512 + r.val, by have := r.isLt; have := s.isLt; omega⟩ (j 1)) * diffOf m c (ix2 ⟨s.val * 512 + r.val, by have := r.isLt; have := s.isLt; omega⟩ (j 1)) := by
    intro s
    have hN : 4 * s.val + 3 < cfg0.N := lt_of_lt_of_eq (by have := s.isLt; omega) N_0.symm
    unfold sums sq
    rw [dif_pos hN]
    refine Finset.sum_congr rfl fun r _ => ?_
    have e : at0 ⟨4 * s.val + 3, hN⟩ (ix2 r (j 1)) = ix2 ⟨s.val * 512 + r.val, by have := r.isLt; have := s.isLt; omega⟩ (j 1) := by
      unfold at0
      refine congrArg (fun a => ix2 a (j 1)) (Fin.ext ?_)
      show (4 * s.val + 3) / 4 * 512 + r.val = s.val * 512 + r.val
      omega
    rw [err_eq m c ⟨4 * s.val + 3, hN⟩ (by show (4 * s.val + 3) % 4 = 3; omega), e]
    rfl
  rw [Finset.sum_congr rfl fun s _ => hs s]
  refine Fin.sum_mul_add_congr fun s r hl => ?_
  rfl

theorem value6 (c : Dev nD) : G6 m c = fun j => ∑ r : Fin 8192, diffOf m c (ix2 r (j 1)) * diffOf m c (ix2 r (j 1)) := by
  rw [← final6]
  refine (dats m 0 c).arrAt_eq_of_covers 6 _ (by decide +kernel) fun t hf y => ?_
  have ht : t.val = 63 := by
    have h := (flush0_6 t).mp hf
    have h' : t.val < 64 := t.isLt
    omega
  blk_simp
  rw [after0_6]
  refine ((congrFun (congrArg (fun t : Fin cfg0.N => (outsAt0 m c t.val t.isLt).2.2.1)
    (Fin.ext ht : t = ⟨63, lt_of_lt_of_eq (by decide) N_0.symm⟩)) _).trans (total m c _)).trans ?_
  refine Fin.sum_fin_congr fun r => ?_
  blk_point [idx t]

end Cert.Proof.LossHead
end
-- ==== Proof.LossHeadClaim.lean ====
module

public import proofs.«01_k».proof.Defs
public import proofs.«01_k».proof.Proof.LossValue
public import proofs.«01_k».proof.Proof.Gen.LossHeadRefIdeal.Read

@[expose] public section

set_option maxRecDepth 16384

noncomputable section

namespace Cert.Proof.LossHead

open Idealize.ShloMosaic Idealize.ShloMosaic.TcCoe Idealize.SL.Sem Cert.LossHeadRefIdeal.Read

variable (A : Vec Ideal Cert.LossHeadIdeal.S8192x5632 .f32) (B : Vec Ideal Cert.LossHeadIdeal.S5632x2048 .f32) (X T : Vec Ideal Cert.LossHeadIdeal.S8192x2048 .f32)

theorem ofBits_two : Ideal.ofBits .f32 0x40000000#32 = ((2 : ℝ) : EReal) := by
  simp [Ideal.ofBits, Ideal.ieee, -EReal.coe_mul]; norm_num
theorem ofBits_cols : Ideal.ofBits .f32 0x45000000#32 = ((2048 : ℝ) : EReal) := by
  simp [Ideal.ofBits, Ideal.ieee, -EReal.coe_mul]; norm_num
theorem ofBits_inv : Ideal.ofBits .f32 0x3A000000#32 = ((1 / 2048 : ℝ) : EReal) := by
  simp [Ideal.ofBits, Ideal.ieee, -EReal.coe_mul]; norm_num

/-- The reference's constants, multiplied out: half of twice the difference, over the number of columns. -/
theorem scale (d : EReal) :
    Ideal.div (Ideal.ofBits .f32 0x3F000000#32 * 1) (Ideal.ofBits .f32 0x45000000#32) * (Ideal.ofBits .f32 0x40000000#32 * d) = d * inv := by
  unfold inv
  rw [Kit.ofBits_half, ofBits_two, ofBits_cols, ofBits_inv, mul_one, Ideal.div_coe (by norm_num), ← mul_assoc, ← EReal.coe_mul, ← EReal.coe_mul, mul_comm d]
  norm_num

theorem reference4 (i : Cert.LossHeadIdeal.S8192x2048.Idx) : val_main_v18 (F := Ideal) A B X T i = diff A B X T i * inv := by
  rw [← scale]
  unfold diff prod
  pointwise [val_main_v18, val_main_v17, val_main_v16, val_main_v15, val_main_v14, val_main_v13, val_main_v7, val_main_v6, val_main_v4, val_main_v3, val_main_v2, val_main_v1, val_main_v0, val_main_cst, val_main_cst_0, val_main_cst_5, val_main_cst_6, val_main_cst_7]

theorem reference5 (i : Cert.LossHeadIdeal.S8192x2048.Idx) : val_main_v19 (F := Ideal) A B X T i = diff A B X T i * inv :=
  reference4 A B X T i

theorem reference6 (j : Cert.LossHeadIdeal.S1x2048.Idx) :
    val_main_v23 (F := Ideal) A B X T j = ∑ r : Fin 8192, diff A B X T (ix2 r (j 1)) * diff A B X T (ix2 r (j 1)) := by
  unfold diff prod
  pointwise [val_main_v23, val_main_v22, val_main_v21, val_main_v20, val_main_v3, val_main_v2, val_main_v1, val_main_v0, val_main_cst, val_main_cst_8]

theorem algebraic : Cert.algebraic_LossHeadIdeal_LossHeadRefIdeal (hLossHeadIdeal := Cert.LossHeadIdeal.Gen.facts) (hLossHeadRefIdeal := Cert.LossHeadRefIdeal.Gen.facts) := by
  intro m g m' g' _ hagree
  refine ⟨fun c => Cert.LossHeadIdeal.Value.G4 m c, fun c => Cert.LossHeadIdeal.Value.G5 m c, fun c => Cert.LossHeadIdeal.Value.G6 m c, Cert.LossHeadIdeal.Value.run m g, ?_⟩
  refine (θ_run _ _ _).mono (fun r h c => ⟨(h c).1.trans ?_, (h c).2.1.trans ?_, (h c).2.2.1.trans ?_, (h c).2.2.2⟩) (Cert.LossHeadRefIdeal.Value.run (F := Ideal) m' g')
  · rw [(hagree c).1, (hagree c).2.1, (hagree c).2.2.1, (hagree c).2.2.2, show (fun c => Cert.LossHeadIdeal.Value.G4 m c) c = _ from value4 m c]
    exact (val_main_v18_eq _ _ _ _).trans (funext fun i => reference4 _ _ _ _ i)
  · rw [(hagree c).1, (hagree c).2.1, (hagree c).2.2.1, (hagree c).2.2.2, show (fun c => Cert.LossHeadIdeal.Value.G5 m c) c = _ from value5 m c]
    exact (val_main_v19_eq _ _ _ _).trans (funext fun i => reference5 _ _ _ _ i)
  · rw [(hagree c).1, (hagree c).2.1, (hagree c).2.2.1, (hagree c).2.2.2, show (fun c => Cert.LossHeadIdeal.Value.G6 m c) c = _ from value6 m c]
    exact (val_main_v23_eq _ _ _ _).trans (funext fun i => reference6 _ _ _ _ i)

end Cert.Proof.LossHead

end
-- ==== Proof.MixOut.lean ====
module

public import proofs.«01_k».proof.Proof.Gen.MixOutIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The output projection of the mixer. A block of rows is swept in two blocks of the contracted axis: the
accumulator starts at zero, each point adds its block's product, and the second writes the residual plus
the accumulator. -/

namespace Cert.Proof.MixOut

open Cert.MixOutIdeal Cert.MixOutIdeal.Gen Cert.MixOutIdeal.Value Idealize.ShloMosaic Idealize.ShloMosaic.TcCoe Idealize.SL.Sem

/-- The product of two matrices. -/
def prod (A : Vec Ideal S8192x2048 .f32) (B : Vec Ideal S2048x2048 .f32) (i : S8192x2048.Idx) : EReal :=
  ∑ l : Fin 2048, A (ix2 (i 0) l) * B (ix2 l (i 1))

/-- The residual stream plus the scaled product. -/
def out (A : Vec Ideal S8192x2048 .f32) (B : Vec Ideal S2048x2048 .f32) (X : Vec Ideal S8192x2048 .f32) (i : S8192x2048.Idx) : EReal :=
  X i + prod A B i

variable (m : (ℓ : Loc nD τ sig) → Buf (Elt Ideal) ℓ)

/-- What one point adds to the accumulator. -/
def part (x0 : Vec Ideal S512x1024 .bf16) (x1 : Vec Ideal S1024x2048 .bf16) (j : S512x2048.Idx) : EReal :=
  ∑ k : Fin 1024, x0 (ix2 (j 0) k) * x1 (ix2 k (j 1))

/-- What the last point writes: the residual block plus the scaled accumulator. -/
def res (x2 acc : Vec Ideal S512x2048 .f32) (j : S512x2048.Idx) : EReal := x2 j + acc j

theorem stepA (c : Dev nD) (t : Fin cfg0.N) (h0 : t.val % 2 = 0) (j : S512x2048.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  unfold part
  pointwise [k0_pay2, k0_pay1]

theorem stepB (c : Dev nD) (t : Fin cfg0.N) (h0 : ¬t.val % 2 = 0) (j : S512x2048.Idx) :
    (outsAt0 m c t.val t.isLt).2 j = (outsAt0 m c (t.val - 1) (Nat.lt_of_le_of_lt (Nat.sub_le _ _) t.isLt)).2 j
      + part (iblk m c 0 t) (iblk m c 1 t) j := by
  rw [outsAt0_B m c t h0 (by omega)]
  frame_out
  simp only [read_unread_whole]
  unfold part
  pointwise [k0_pay2]

theorem lastC (c : Dev nD) (t : Fin cfg0.N) (h1 : t.val % 2 = 1) (j : S512x2048.Idx) :
    (outsAt0 m c t.val t.isLt).1 j = res (iblk m c 2 t) (outsAt0 m c t.val t.isLt).2 j := by
  rw [outsAt0_B m c t (by omega) h1]
  frame_out
  simp (disch := decide) only [View.readCov_fill, read_unread_whole]
  generalize k0_pay2 (F := Ideal) _ _ _ = acc
  unfold res
  canon_tiles x h
  all_goals (open_payloads; pointwise; blk_point [])

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

theorem value (c : Dev nD) : G3 m c = fun i => out (m ((c : Thread nD τ).loc main_arg0)) (m ((c : Thread nD τ).loc main_arg1))
    (m ((c : Thread nD τ).loc main_arg2)) i := by
  rw [← final3]
  refine (dats m 0 c).arrAt_eq_of_covers 3 _ (by decide +kernel) fun t hf y => ?_
  blk_simp
  rw [after0_3, lastC m c t ((flush0_3 t).mp hf)]
  unfold res
  rw [Pipeline.eq_sum_fin_of_reset_step_apply_of_flush (fun n h => (outsAt0 m c n h).2) 2 (fun _ => 0)
    (fun p j => part (iblk m c 0 p) (iblk m c 1 p) j) (fun t h j => stepA m c t h j) (fun t h j => stepB m c t h j) t ((flush0_3 t).mp hf) _, zero_add]
  unfold out prod part
  refine congrArg₂ (· + ·) (by blk_point [iblk, V, idx t]) ?_
  refine Fin.sum_mul_add_congr fun s k hl => ?_
  have i1 := idx ⟨_, Pipeline.run_point_lt_of_flush t ((flush0_3 t).mp hf) s⟩
  blk_point [iblk, V, idx t, i1]

end Cert.Proof.MixOut
end
-- ==== Proof.MixOutClaim.lean ====
module

public import proofs.«01_k».proof.Defs
public import proofs.«01_k».proof.Proof.MixOut
public import proofs.«01_k».proof.Proof.Gen.MixOutRefIdeal.Read

@[expose] public section

set_option maxRecDepth 16384

noncomputable section

namespace Cert.Proof.MixOut

open Idealize.ShloMosaic Idealize.ShloMosaic.TcCoe Idealize.SL.Sem

theorem reference (A : Vec Ideal Cert.MixOutIdeal.S8192x2048 .f32) (B : Vec Ideal Cert.MixOutIdeal.S2048x2048 .f32) (X : Vec Ideal Cert.MixOutIdeal.S8192x2048 .f32)
    (i : Cert.MixOutIdeal.S8192x2048.Idx) : Cert.MixOutRefIdeal.Read.val_main_v1 (F := Ideal) A B X i = out A B X i := by
  unfold out prod
  pointwise [Cert.MixOutRefIdeal.Read.val_main_v1, Cert.MixOutRefIdeal.Read.val_main_v0]

theorem algebraic : Cert.algebraic_MixOutIdeal_MixOutRefIdeal (hMixOutIdeal := Cert.MixOutIdeal.Gen.facts) (hMixOutRefIdeal := Cert.MixOutRefIdeal.Gen.facts) := by
  intro m g m' g' _ hagree
  refine ⟨fun c => Cert.MixOutIdeal.Value.G3 m c, Cert.MixOutIdeal.Value.run m g, ?_⟩
  refine (θ_run _ _ _).mono (fun r h c => ⟨(h c).1.trans ?_, (h c).2⟩) (Cert.MixOutRefIdeal.Value.run (F := Ideal) m' g')
  rw [(hagree c).1, (hagree c).2.1, (hagree c).2.2, show (fun c => Cert.MixOutIdeal.Value.G3 m c) c = _ from value m c]
  exact (Cert.MixOutRefIdeal.Read.val_main_v1_eq _ _ _).trans (funext fun i => reference _ _ _ i)

end Cert.Proof.MixOut

end
-- ==== Proof.Dact.lean ====
module

public import proofs.«01_k».proof.Proof.Gen.DactIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The gradient of the gate and of the up projection. Each point multiplies 1024 rows of the cotangent by 512
rows of the down projection over their whole common axis, halves the tile, and multiplies it by the tiles of
the two local derivatives, which arrive as arguments. -/

namespace Cert.Proof.Dact

open Cert.DactIdeal Cert.DactIdeal.Gen Cert.DactIdeal.Value Idealize.ShloMosaic Idealize.ShloMosaic.TcCoe Idealize.SL.Sem

/-- The product of two arrays over their second axes. -/
def prod (D : Vec Ideal S8192x2048 .f32) (W : Vec Ideal S5632x2048 .f32) (i : S8192x5632.Idx) : EReal :=
  ∑ l : Fin 2048, D (ix2 (i 0) l) * W (ix2 (i 1) l)

variable (m : (ℓ : Loc nD τ sig) → Buf (Elt Ideal) ℓ)

/-- One tile of it. -/
def tile (x0 : Vec Ideal S1024x2048 .bf16) (x1 : Vec Ideal S512x2048 .bf16) (j : S1024x512.Idx) : EReal :=
  ∑ k : Fin 2048, x0 (ix2 (j 0) k) * x1 (ix2 (j 1) k)

theorem gate (x0 : Vec Ideal S1024x2048 .bf16) (x1 : Vec Ideal S512x2048 .bf16) (x2 x3 : Vec Ideal S1024x512 .bf16)
    (j : S1024x512.Idx) : out0_4 x0 x1 x2 x3 j = tile x0 x1 j * Ideal.ofBits .f32 0x3F000000#32 * x2 j := by
  unfold out0_4 tile
  canon_tiles x h
  all_goals (open_payloads; pointwise; blk_point [])

theorem up (x0 : Vec Ideal S1024x2048 .bf16) (x1 : Vec Ideal S512x2048 .bf16) (x2 x3 : Vec Ideal S1024x512 .bf16)
    (j : S1024x512.Idx) : out0_5 x0 x1 x2 x3 j = tile x0 x1 j * Ideal.ofBits .f32 0x3F000000#32 * x3 j := by
  unfold out0_5 tile
  canon_tiles x h
  all_goals (open_payloads; pointwise; blk_point [])

theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

theorem product (c : Dev nD) (t : Fin cfg0.N) (y : S1024x512.Idx) : tile (iblk m c 0 t) (iblk m c 1 t) y
    = prod (m ((c : Thread nD τ).loc main_arg3)) (m ((c : Thread nD τ).loc main_arg2)) ((win0_4.blk t).view.emb y) := by
  unfold tile prod
  refine Finset.sum_congr (M := EReal) rfl fun k _ => ?_
  blk_point [iblk, V, idx t]

/-- An array of ones. -/
def ones : FVec Ideal S8192x5632 .f32 := broadcastInDim S8192x5632 ![] bcast_S_S8192x5632 (constant S_ .f32 0x3F800000#32)

/-- The logistic of every element. -/
def logistic (g : FVec Ideal S8192x5632 .f32) : FVec Ideal S8192x5632 .f32 := Host.divf ones (addf ones (Host.exp (Host.negf g)))

/-- The derivative of `silu g * u` in `u`, as the host computes it. -/
def slopeUp (g : FVec Ideal S8192x5632 .f32) : FVec Ideal S8192x5632 .bf16 := truncf .bf16 (mulf (mulf g (logistic g)) ones) bitsLt_bf16_f32

/-- The derivative of `silu g * u` in `g`, as the host computes it. -/
def slopeGate (g u : FVec Ideal S8192x5632 .f32) : FVec Ideal S8192x5632 .bf16 :=
  truncf .bf16 (addf (mulf (mulf ones u) (logistic g))
    (mulf (mulf g (mulf ones u)) (mulf (logistic g) (subf ones (logistic g))))) bitsLt_bf16_f32

theorem host_gate (c : Dev nD) : V (F := Ideal) m c main_v8
    = slopeGate (m ((c : Thread nD τ).loc main_arg0)) (m ((c : Thread nD τ).loc main_arg1)) := by
  unfold_abbrev_sides
  simp only [hostOps0, hostOps0_1, hostOps0_2, hostOps0_3, List.flatten_cons, List.flatten_nil, List.cons_append,
    List.nil_append, StableHlo.TRef.binary, StableHlo.TRef.nullary, StableHlo.TRef.unary, StableHlo.TRef.toBuf, StableHlo.TRef.ofBuf, cast_eq]
  after_results
  rfl

theorem host_up (c : Dev nD) : V (F := Ideal) m c main_v9 = slopeUp (m ((c : Thread nD τ).loc main_arg0)) := by
  unfold_abbrev_sides
  simp only [hostOps0, hostOps0_1, hostOps0_2, hostOps0_3, List.flatten_cons, List.flatten_nil, List.cons_append,
    List.nil_append, StableHlo.TRef.binary, StableHlo.TRef.nullary, StableHlo.TRef.unary, StableHlo.TRef.toBuf, StableHlo.TRef.ofBuf, cast_eq]
  after_results
  rfl

theorem value_gate (c : Dev nD) : (dats m 0 c).arrAt 4 cfg0.N
    = fun i => prod (m ((c : Thread nD τ).loc main_arg3)) (m ((c : Thread nD τ).loc main_arg2)) i * Ideal.ofBits .f32 0x3F000000#32
      * slopeGate (m ((c : Thread nD τ).loc main_arg0)) (m ((c : Thread nD τ).loc main_arg1)) i := by
  rw [← host_gate]
  refine (dats m 0 c).arrAt_eq_of_covers 4 _ (by decide +kernel) fun t hf y => ?_
  blk_simp
  rw [after0_4, gate, product]
  refine congrArg₂ (· * ·) (congrArg (fun z => _ * z) rfl) ?_
  blk_point [iblk, idx t]

theorem value_up (c : Dev nD) : (dats m 0 c).arrAt 5 cfg0.N
    = fun i => prod (m ((c : Thread nD τ).loc main_arg3)) (m ((c : Thread nD τ).loc main_arg2)) i * Ideal.ofBits .f32 0x3F000000#32
      * slopeUp (m ((c : Thread nD τ).loc main_arg0)) i := by
  rw [← host_up]
  refine (dats m 0 c).arrAt_eq_of_covers 5 _ (by decide +kernel) fun t hf y => ?_
  blk_simp
  rw [after0_5, up, product]
  refine congrArg₂ (· * ·) (congrArg (fun z => _ * z) rfl) ?_
  blk_point [iblk, idx t]

theorem logistic_apply (g : Vec Ideal S8192x5632 .f32) (i : S8192x5632.Idx) : logistic g i = Ideal.div 1 (1 + Ideal.exp (-g i)) := by
  pointwise [logistic, ones]

/-- The logistic of a real is a real. -/
theorem logistic_coe (g : Vec Ideal S8192x5632 .f32) (i : S8192x5632.Idx) (r : ℝ) (h : g i = (r : EReal)) :
    logistic g i = ((1 / (1 + Real.exp (-r)) : ℝ) : EReal) := by
  rw [logistic_apply, h]
  exact Kit.logistic_coe r

theorem slopeUp_apply (g : Vec Ideal S8192x5632 .f32) (i : S8192x5632.Idx) : slopeUp g i = g i * logistic g i := by
  pointwise [slopeUp, ones]

theorem slopeGate_apply (g u : Vec Ideal S8192x5632 .f32) (i : S8192x5632.Idx) : slopeGate g u i
    = u i * logistic g i + g i * u i * (logistic g i * (1 - logistic g i)) := by
  pointwise [slopeGate, ones]

end Cert.Proof.Dact
end
-- ==== Proof.DactClaim.lean ====
module

public import proofs.«01_k».proof.Defs
public import proofs.«01_k».proof.Proof.Dact
public import proofs.«01_k».proof.Proof.Gen.DactRefIdeal.Read
public import proofs.«01_k».proof.Proof.Gen.Pre_dact_finite

@[expose] public section

set_option maxRecDepth 16384

noncomputable section

namespace Cert.Proof.Dact

open Idealize.ShloMosaic Idealize.ShloMosaic.TcCoe Idealize.SL.Sem

/-- Half of the product, in the reference's order: the cotangent is halved before it is multiplied. -/
theorem halves (D : Vec Ideal Cert.DactIdeal.S8192x2048 .f32) (W : Vec Ideal Cert.DactIdeal.S5632x2048 .f32) (i : Cert.DactIdeal.S8192x5632.Idx) :
    (∑ x : Fin 2048, Ideal.ofBits FTy.f32 0x3F000000#32 * D (ix2 (i 0) x) * W (ix2 (i 1) x)) = prod D W i * Ideal.ofBits FTy.f32 0x3F000000#32 := by
  unfold prod
  rw [Kit.sum_mul_half]
  exact Finset.sum_congr rfl fun l _ => by rw [mul_assoc, mul_comm]

theorem reference_up (g : Vec Ideal Cert.DactIdeal.S8192x5632 .f32) (W : Vec Ideal Cert.DactIdeal.S5632x2048 .f32) (D : Vec Ideal Cert.DactIdeal.S8192x2048 .f32)
    (i : Cert.DactIdeal.S8192x5632.Idx) : Cert.DactRefIdeal.Read.val_main_v12 (F := Ideal) g W D i
      = prod D W i * Ideal.ofBits .f32 0x3F000000#32 * slopeUp g i := by
  pointwise [Cert.DactRefIdeal.Read.val_main_call0_v0, Cert.DactRefIdeal.Read.val_main_call0_v1, Cert.DactRefIdeal.Read.val_main_call0_cst, Cert.DactRefIdeal.Read.val_main_call0_v2,
    Cert.DactRefIdeal.Read.val_main_call0_v3, Cert.DactRefIdeal.Read.val_main_call0_cst_0, Cert.DactRefIdeal.Read.val_main_call0_v4, Cert.DactRefIdeal.Read.val_main_v0_2,
    Cert.DactRefIdeal.Read.val_main_call0_cst_1, Cert.DactRefIdeal.Read.val_main_call0_v6, Cert.DactRefIdeal.Read.val_main_call0_v7, Cert.DactRefIdeal.Read.val_main_v0_1,
    Cert.DactRefIdeal.Read.val_main_v0_0, Cert.DactRefIdeal.Read.val_main_cst, Cert.DactRefIdeal.Read.val_main_cst_0, Cert.DactRefIdeal.Read.val_main_v5,
    Cert.DactRefIdeal.Read.val_main_v6, Cert.DactRefIdeal.Read.val_main_v7, Cert.DactRefIdeal.Read.val_main_v8, Cert.DactRefIdeal.Read.val_main_v9,
    Cert.DactRefIdeal.Read.val_main_call1_v0, Cert.DactRefIdeal.Read.val_main_call1_v1, Cert.DactRefIdeal.Read.val_main_call1_v2, Cert.DactRefIdeal.Read.val_main_v10,
    Cert.DactRefIdeal.Read.val_main_v11, Cert.DactRefIdeal.Read.val_main_v12]
  rw [halves, slopeUp_apply, logistic_apply, mul_comm]

/-- The product of real arrays is real. -/
theorem prod_coe (D : Vec Ideal Cert.DactIdeal.S8192x2048 .f32) (W : Vec Ideal Cert.DactIdeal.S5632x2048 .f32) (hD : ∀ i, ∃ r : ℝ, D i = (r : EReal))
    (hW : ∀ i, ∃ r : ℝ, W i = (r : EReal)) (i : Cert.DactIdeal.S8192x5632.Idx) : ∃ r : ℝ, prod D W i = (r : EReal) := by
  choose d hd using hD
  choose w hw using hW
  refine ⟨∑ l : Fin 2048, d (ix2 (i 0) l) * w (ix2 (i 1) l), ?_⟩
  unfold prod
  simp only [hd, hw, ← EReal.coe_mul]
  exact Kit.coe_sum _

/-- The gate's slope times the cotangent, over the reals. -/
theorem slope_law (p a b s : ℝ) : (p : EReal) * ((1 / 2 : ℝ) : EReal) * (b : EReal) * (s : EReal)
      + (a : EReal) * ((p : EReal) * ((1 / 2 : ℝ) : EReal) * (b : EReal)) * ((s : EReal) * (1 - (s : EReal)))
    = (p : EReal) * ((1 / 2 : ℝ) : EReal) * ((b : EReal) * (s : EReal) + (a : EReal) * (b : EReal) * ((s : EReal) * (1 - (s : EReal)))) := by
  norm_cast
  ring

theorem reference_gate (g u : Vec Ideal Cert.DactIdeal.S8192x5632 .f32) (W : Vec Ideal Cert.DactIdeal.S5632x2048 .f32) (D : Vec Ideal Cert.DactIdeal.S8192x2048 .f32)
    (hg : ∀ i, ∃ r : ℝ, g i = (r : EReal)) (hu : ∀ i, ∃ r : ℝ, u i = (r : EReal)) (hW : ∀ i, ∃ r : ℝ, W i = (r : EReal)) (hD : ∀ i, ∃ r : ℝ, D i = (r : EReal))
    (i : Cert.DactIdeal.S8192x5632.Idx) : Cert.DactRefIdeal.Read.val_main_v11 (F := Ideal) g u W D i
      = prod D W i * Ideal.ofBits .f32 0x3F000000#32 * slopeGate g u i := by
  obtain ⟨p, hp⟩ := prod_coe D W hD hW i
  obtain ⟨a, ha⟩ := hg i
  obtain ⟨b, hb⟩ := hu i
  pointwise [Cert.DactRefIdeal.Read.val_main_call0_v0, Cert.DactRefIdeal.Read.val_main_call0_v1, Cert.DactRefIdeal.Read.val_main_call0_cst, Cert.DactRefIdeal.Read.val_main_call0_v2,
    Cert.DactRefIdeal.Read.val_main_call0_v3, Cert.DactRefIdeal.Read.val_main_call0_cst_0, Cert.DactRefIdeal.Read.val_main_call0_v4, Cert.DactRefIdeal.Read.val_main_v0_2,
    Cert.DactRefIdeal.Read.val_main_call0_cst_1, Cert.DactRefIdeal.Read.val_main_call0_v6, Cert.DactRefIdeal.Read.val_main_call0_v7, Cert.DactRefIdeal.Read.val_main_v0_1,
    Cert.DactRefIdeal.Read.val_main_v0_0, Cert.DactRefIdeal.Read.val_main_cst, Cert.DactRefIdeal.Read.val_main_cst_0, Cert.DactRefIdeal.Read.val_main_v5,
    Cert.DactRefIdeal.Read.val_main_v6, Cert.DactRefIdeal.Read.val_main_v7, Cert.DactRefIdeal.Read.val_main_v8, Cert.DactRefIdeal.Read.val_main_v9,
    Cert.DactRefIdeal.Read.val_main_call1_v0, Cert.DactRefIdeal.Read.val_main_call1_v1, Cert.DactRefIdeal.Read.val_main_call1_v2, Cert.DactRefIdeal.Read.val_main_v10,
    Cert.DactRefIdeal.Read.val_main_v11, Cert.DactRefIdeal.Read.val_main_v12]
  rw [halves, slopeGate_apply, ← logistic_apply, logistic_coe g i a ha, Kit.ofBits_half, hp, ha, hb]
  exact slope_law p a b _

/-- What the precondition says: the four arrays are real. -/
theorem finite (g u : FVec Ideal Cert.Pre_dact_finite.S8192x5632 .f32) (W : FVec Ideal Cert.Pre_dact_finite.S5632x2048 .f32) (D : FVec Ideal Cert.Pre_dact_finite.S8192x2048 .f32)
    (h : @Cert.Pre_dact_finite.fn Cert.Pre_dact_finite.Gen.facts Ideal _ g u W D = fun _ => 1#1) :
    (∀ i, ∃ r : ℝ, g i = (r : EReal)) ∧ (∀ i, ∃ r : ℝ, u i = (r : EReal)) ∧ (∀ i, ∃ r : ℝ, W i = (r : EReal)) ∧ ∀ i, ∃ r : ℝ, D i = (r : EReal) := by
  haveI : Subsingleton Cert.Pre_dact_finite.S_.Idx := ⟨fun a b => funext fun k => k.elim0⟩
  have e := congrFun h (fun k => k.elim0)
  unfold Cert.Pre_dact_finite.fn Cert.Pre_dact_finite.fn_part1 at e
  obtain ⟨e, e3⟩ := IntOp.andi_eq_one.1 e
  obtain ⟨e, e2⟩ := IntOp.andi_eq_one.1 e
  obtain ⟨e0, e1⟩ := IntOp.andi_eq_one.1 e
  exact ⟨Kit.real_of_all g _ _ _ _ _ e0, Kit.real_of_all u _ _ _ _ _ e1, Kit.real_of_all W _ _ _ _ _ e2, Kit.real_of_all D _ _ _ _ _ e3⟩

theorem algebraic : Cert.algebraic_DactIdeal_DactRefIdeal_pre_dact_finite (hDactIdeal := Cert.DactIdeal.Gen.facts) (hDactRefIdeal := Cert.DactRefIdeal.Gen.facts)
    (hPre_dact_finite := Cert.Pre_dact_finite.Gen.facts) := by
  intro m g m' g' hpre hagree
  refine ⟨fun c => (Cert.DactIdeal.Gen.dats m 0 c).arrAt 4 Cert.DactIdeal.cfg0.N, fun c => (Cert.DactIdeal.Gen.dats m 0 c).arrAt 5 Cert.DactIdeal.cfg0.N,
    Cert.DactIdeal.Value.run_blocks m g, ?_⟩
  refine (θ_run _ _ _).mono (fun r h c => ⟨(h c).1.trans ?_, (h c).2.1.trans ?_, (h c).2.2⟩) (Cert.DactRefIdeal.Value.run (F := Ideal) m' g')
  · rw [(hagree c).1, (hagree c).2.1, (hagree c).2.2.1, (hagree c).2.2.2,
      show (fun c => (Cert.DactIdeal.Gen.dats m 0 c).arrAt 4 Cert.DactIdeal.cfg0.N) c = _ from value_gate m c]
    obtain ⟨h0, h1, h2, h3⟩ := finite _ _ _ _ (hpre c)
    exact (Cert.DactRefIdeal.Read.val_main_v11_eq _ _ _ _).trans (funext fun i => reference_gate _ _ _ _ h0 h1 h2 h3 i)
  · rw [(hagree c).1, (hagree c).2.2.1, (hagree c).2.2.2,
      show (fun c => (Cert.DactIdeal.Gen.dats m 0 c).arrAt 5 Cert.DactIdeal.cfg0.N) c = _ from value_up m c]
    exact (Cert.DactRefIdeal.Read.val_main_v12_eq _ _ _).trans (funext fun i => reference_up _ _ _ i)

end Cert.Proof.Dact

end
-- ==== Proof.Dycat.lean ====
module

public import proofs.«01_k».proof.Proof.Gen.DycatIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! The gradient of the mixer's concatenated streams: each point multiplies 1024 rows of the cotangent by 512
rows of the output projection, over their whole common axis, and writes the tile in both widths. -/

namespace Cert.Proof.Dycat

open Cert.DycatIdeal Cert.DycatIdeal.Gen Cert.DycatIdeal.Value Idealize.ShloMosaic Idealize.ShloMosaic.TcCoe Idealize.SL.Sem

/-- The product of two arrays over their second axes. -/
def prod (D : Vec Ideal S8192x2048 .f32) (W : Vec Ideal S2048x2048 .f32) (i : S8192x2048.Idx) : EReal :=
  ∑ l : Fin 2048, D (ix2 (i 0) l) * W (ix2 (i 1) l)

variable (m : (ℓ : Loc nD τ sig) → Buf (Elt Ideal) ℓ)

/-- One tile of it. -/
def tile (x0 : Vec Ideal S1024x2048 .bf16) (x1 : Vec Ideal S512x2048 .bf16) (j : S1024x512.Idx) : EReal :=
  ∑ k : Fin 2048, x0 (ix2 (j 0) k) * x1 (ix2 (j 1) k)

theorem wide (x0 : Vec Ideal S1024x2048 .bf16) (x1 : Vec Ideal S512x2048 .bf16) (j : S1024x512.Idx) :
    out0_2 x0 x1 j = tile x0 x1 j := by
  unfold out0_2 tile
  canon_tiles x h
  all_goals (open_payloads; pointwise; blk_point [])

theorem narrow (x0 : Vec Ideal S1024x2048 .bf16) (x1 : Vec Ideal S512x2048 .bf16) (j : S1024x512.Idx) :
    out0_3 x0 x1 j = tile x0 x1 j := by
  unfold out0_3 tile
  canon_tiles x h
  all_goals (open_payloads; pointwise; blk_point [])

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem value_wide (c : Dev nD) : (dats m 0 c).arrAt 2 cfg0.N
    = fun i => prod (m ((c : Thread nD τ).loc main_arg2)) (m ((c : Thread nD τ).loc main_arg1)) i := by
  refine (dats m 0 c).arrAt_eq_of_covers 2 _ (by decide +kernel) fun t hf y => ?_
  blk_simp
  rw [after0_2, wide]
  unfold tile prod
  refine Finset.sum_congr (M := EReal) rfl fun k _ => ?_
  blk_point [iblk, V, idx t]

theorem value_narrow (c : Dev nD) : (dats m 0 c).arrAt 3 cfg0.N
    = fun i => prod (m ((c : Thread nD τ).loc main_arg2)) (m ((c : Thread nD τ).loc main_arg1)) i := by
  refine (dats m 0 c).arrAt_eq_of_covers 3 _ (by decide +kernel) fun t hf y => ?_
  blk_simp
  rw [after0_3, narrow]
  unfold tile prod
  refine Finset.sum_congr (M := EReal) rfl fun k _ => ?_
  blk_point [iblk, V, idx t]

end Cert.Proof.Dycat
end
-- ==== Proof.DycatClaim.lean ====
module

public import proofs.«01_k».proof.Defs
public import proofs.«01_k».proof.Proof.Dycat
public import proofs.«01_k».proof.Proof.Gen.DycatRefIdeal.Read

@[expose] public section

set_option maxRecDepth 16384

noncomputable section

namespace Cert.Proof.Dycat

open Idealize.ShloMosaic Idealize.ShloMosaic.TcCoe Idealize.SL.Sem

theorem reference_wide (W : Vec Ideal Cert.DycatIdeal.S2048x2048 .f32) (D : Vec Ideal Cert.DycatIdeal.S8192x2048 .f32)
    (i : Cert.DycatIdeal.S8192x2048.Idx) : Cert.DycatRefIdeal.Read.val_main_v1 (F := Ideal) W D i = prod D W i := by
  unfold prod
  pointwise [Cert.DycatRefIdeal.Read.val_main_v1]

theorem reference_narrow (W : Vec Ideal Cert.DycatIdeal.S2048x2048 .f32) (D : Vec Ideal Cert.DycatIdeal.S8192x2048 .f32)
    (i : Cert.DycatIdeal.S8192x2048.Idx) : Cert.DycatRefIdeal.Read.val_main_v2 (F := Ideal) W D i = prod D W i := by
  unfold prod
  pointwise [Cert.DycatRefIdeal.Read.val_main_v2, Cert.DycatRefIdeal.Read.val_main_v1]

theorem algebraic : Cert.algebraic_DycatIdeal_DycatRefIdeal (hDycatIdeal := Cert.DycatIdeal.Gen.facts) (hDycatRefIdeal := Cert.DycatRefIdeal.Gen.facts) := by
  intro m g m' g' _ hagree
  refine ⟨fun c => (Cert.DycatIdeal.Gen.dats m 0 c).arrAt 2 Cert.DycatIdeal.cfg0.N, fun c => (Cert.DycatIdeal.Gen.dats m 0 c).arrAt 3 Cert.DycatIdeal.cfg0.N,
    Cert.DycatIdeal.Value.run_blocks m g, ?_⟩
  refine (θ_run _ _ _).mono (fun r h c => ⟨(h c).1.trans ?_, (h c).2.1.trans ?_, (h c).2.2⟩) (Cert.DycatRefIdeal.Value.run (F := Ideal) m' g')
  · rw [(hagree c).2.1, (hagree c).2.2, show (fun c => (Cert.DycatIdeal.Gen.dats m 0 c).arrAt 2 Cert.DycatIdeal.cfg0.N) c = _ from value_wide m c]
    exact (Cert.DycatRefIdeal.Read.val_main_v1_eq _ _).trans (funext fun i => reference_wide _ _ i)
  · rw [(hagree c).2.1, (hagree c).2.2, show (fun c => (Cert.DycatIdeal.Gen.dats m 0 c).arrAt 3 Cert.DycatIdeal.cfg0.N) c = _ from value_narrow m c]
    exact (Cert.DycatRefIdeal.Read.val_main_v2_eq _ _).trans (funext fun i => reference_narrow _ _ i)

end Cert.Proof.Dycat

end
-- ==== Proof.Dwd.lean ====
module

public import proofs.«01_k».proof.Proof.Gen.DwdIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

namespace Cert.Proof.Dwd

open Cert.DwdIdeal Cert.DwdIdeal.Gen Cert.DwdIdeal.Value Idealize.ShloMosaic Idealize.ShloMosaic.TcCoe Idealize.SL.Sem

/-- The product of two arrays over their first axes. -/
def prod (A : Vec Ideal S8192x5632 .f32) (B : Vec Ideal S8192x2048 .f32) (i : S5632x2048.Idx) : EReal :=
  ∑ l : Fin 8192, A (ix2 l (i 0)) * B (ix2 l (i 1))

variable (m : (ℓ : Loc nD τ sig) → Buf (Elt Ideal) ℓ)

def part (x0 : Vec Ideal S1024x1408 .bf16) (x1 : Vec Ideal S1024x2048 .bf16) (j : S1408x2048.Idx) : EReal :=
  ∑ k : Fin 1024, x0 (ix2 k (j 0)) * x1 (ix2 k (j 1))

theorem stepA (c : Dev nD) (t : Fin cfg0.N) (h0 : t.val % 8 = 0) (j : S1408x2048.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  refine (Kit.canon_of_cover [_] j [_, _, _] (View.cover_of_tiledBy _ ![128, 2048] (by sl_kernel_rfl) j)).trans ?_
  unfold part
  canon_tiles x h using (View.cover_of_tiledBy _ ![128, 2048] (by sl_kernel_rfl) j)
  all_goals (open_payloads; pointwise; blk_point [k0_pay3])

theorem stepB (c : Dev nD) (t : Fin cfg0.N) (h0 : ¬t.val % 8 = 0) (j : S1408x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h1 : t.val % 8 = 7
  · rw [outsAt0_C m c t h0 h1]
    frame_out
    simp only [read_unread_whole]
    unfold part
    canon_tiles x h using (View.cover_of_tiledBy _ ![128, 2048] (by sl_kernel_rfl) j)
    all_goals (open_payloads; pointwise; blk_point [])
  · rw [outsAt0_B m c t h0 h1]
    frame_out
    simp only [read_unread_whole]
    unfold part
    canon_tiles x h using (View.cover_of_tiledBy _ ![128, 2048] (by sl_kernel_rfl) j)
    all_goals (open_payloads; pointwise; blk_point [])

theorem lastC (c : Dev nD) (t : Fin cfg0.N) (h1 : t.val % 8 = 7) (j : S1408x2048.Idx) :
    (outsAt0 m c t.val t.isLt).1 j = (outsAt0 m c t.val t.isLt).2 j * Ideal.ofBits .f32 0x3F000000#32 := by
  rw [outsAt0_C m c t (by omega) h1]
  frame_out
  rw [View.readCov_eq_canon']
  pointwise [k0_pay2]

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem value (c : Dev nD) : G2 m c = fun i => prod (m ((c : Thread nD τ).loc main_arg0)) (m ((c : Thread nD τ).loc main_arg2)) i
    * Ideal.ofBits .f32 0x3F000000#32 := by
  rw [← final2]
  refine (dats m 0 c).arrAt_eq_of_covers 2 _ (by decide +kernel) fun t hf y => ?_
  blk_simp
  rw [after0_2, lastC m c t ((flush0_2 t).mp hf), Pipeline.eq_sum_fin_of_reset_step_apply_of_flush (fun n h => (outsAt0 m c n h).2) 8 (fun _ => 0)
    (fun p j => part (iblk m c 0 p) (iblk m c 1 p) j) (fun t h j => stepA m c t h j) (fun t h j => stepB m c t h j) t ((flush0_2 t).mp hf) _, zero_add]
  unfold part prod
  refine congrArg (· * Ideal.ofBits .f32 0x3F000000#32) ?_
  refine Fin.sum_mul_add_congr fun s k hl => ?_
  have i1 := idx ⟨_, Pipeline.run_point_lt_of_flush t ((flush0_2 t).mp hf) s⟩
  blk_point [iblk, V, idx t, i1]

end Cert.Proof.Dwd
end
-- ==== Proof.DwdClaim.lean ====
module

public import proofs.«01_k».proof.Defs
public import proofs.«01_k».proof.Proof.Dwd
public import proofs.«01_k».proof.Proof.Gen.DwdRefIdeal.Read

@[expose] public section

set_option maxRecDepth 16384

noncomputable section

namespace Cert.Proof.Dwd

open Idealize.ShloMosaic Idealize.ShloMosaic.TcCoe Idealize.SL.Sem

theorem reference (A : Vec Ideal Cert.DwdIdeal.S8192x5632 .f32) (B : Vec Ideal Cert.DwdIdeal.S8192x2048 .f32) (i : Cert.DwdIdeal.S5632x2048.Idx) :
    Cert.DwdRefIdeal.Read.val_main_v7 (F := Ideal) A B i = prod A B i * Ideal.ofBits .f32 0x3F000000#32 := by
  unfold prod
  pointwise [Cert.DwdRefIdeal.Read.val_main_v7, Cert.DwdRefIdeal.Read.val_main_v6, Cert.DwdRefIdeal.Read.val_main_v5, Cert.DwdRefIdeal.Read.val_main_v4, Cert.DwdRefIdeal.Read.val_main_v3, Cert.DwdRefIdeal.Read.val_main_cst_0]
  rw [Kit.sum_mul_half]
  refine Finset.sum_congr rfl fun l _ => ?_
  rw [mul_assoc, mul_comm, mul_comm (B _)]

theorem algebraic : Cert.algebraic_DwdIdeal_DwdRefIdeal (hDwdIdeal := Cert.DwdIdeal.Gen.facts) (hDwdRefIdeal := Cert.DwdRefIdeal.Gen.facts) := by
  intro m g m' g' _ hagree
  refine ⟨fun c => Cert.DwdIdeal.Value.G2 m c, Cert.DwdIdeal.Value.run m g, ?_⟩
  refine (θ_run _ _ _).mono (fun r h c => ⟨(h c).1.trans ?_, (h c).2⟩) (Cert.DwdRefIdeal.Value.run (F := Ideal) m' g')
  rw [(hagree c).1, (hagree c).2.2, show (fun c => Cert.DwdIdeal.Value.G2 m c) c = _ from value m c]
  exact (Cert.DwdRefIdeal.Read.val_main_v7_eq _ _).trans (funext fun i => reference _ _ i)

end Cert.Proof.Dwd

end
-- ==== Proof.Dwg.lean ====
module

public import proofs.«01_k».proof.Proof.Gen.DwgIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

namespace Cert.Proof.Dwg

open Cert.DwgIdeal Cert.DwgIdeal.Gen Cert.DwgIdeal.Value Idealize.ShloMosaic Idealize.ShloMosaic.TcCoe Idealize.SL.Sem

/-- The product of two arrays over their first axes. -/
def prod (A : Vec Ideal S8192x2048 .f32) (B : Vec Ideal S8192x5632 .f32) (i : S2048x5632.Idx) : EReal :=
  ∑ l : Fin 8192, A (ix2 l (i 0)) * B (ix2 l (i 1))

variable (m : (ℓ : Loc nD τ sig) → Buf (Elt Ideal) ℓ)

def part (x0 : Vec Ideal S1024x2048 .bf16) (x1 : Vec Ideal S1024x1408 .bf16) (j : S2048x1408.Idx) : EReal :=
  ∑ k : Fin 1024, x0 (ix2 k (j 0)) * x1 (ix2 k (j 1))

theorem stepA (c : Dev nD) (t : Fin cfg0.N) (h0 : t.val % 8 = 0) (j : S2048x1408.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  refine (Kit.canon_of_cover [_] j [_, _, _, _] (View.cover_of_tiledL _ ![512, 1408] (by sl_kernel_rfl) j)).trans ?_
  unfold part
  canon_tiles x h using (View.cover_of_tiledL _ ![512, 1408] (by sl_kernel_rfl) j)
  all_goals (open_payloads; pointwise; blk_point [k0_pay4])

theorem stepB (c : Dev nD) (t : Fin cfg0.N) (h0 : ¬t.val % 8 = 0) (j : S2048x1408.Idx) :
    (outsAt0 m c t.val t.isLt).2 j = (outsAt0 m c (t.val - 1) (Nat.lt_of_le_of_lt (Nat.sub_le _ _) t.isLt)).2 j
      + part (iblk m c 0 t) (iblk m c 1 t) j := by
  by_cases h1 : t.val % 8 = 7
  · rw [outsAt0_C m c t h0 h1]
    frame_out
    simp only [read_unread_whole]
    unfold part
    canon_tiles x h using (View.cover_of_tiledL _ ![512, 1408] (by sl_kernel_rfl) j)
    all_goals (open_payloads; pointwise; blk_point [])
  · rw [outsAt0_B m c t h0 h1]
    frame_out
    simp only [read_unread_whole]
    unfold part
    canon_tiles x h using (View.cover_of_tiledL _ ![512, 1408] (by sl_kernel_rfl) j)
    all_goals (open_payloads; pointwise; blk_point [])

theorem lastC (c : Dev nD) (t : Fin cfg0.N) (h1 : t.val % 8 = 7) (j : S2048x1408.Idx) :
    (outsAt0 m c t.val t.isLt).1 j = (outsAt0 m c t.val t.isLt).2 j := by
  rw [outsAt0_C m c t (by omega) h1]
  frame_out
  rw [View.readCov_eq_canon']
  pointwise [k0_pay3]

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem value (c : Dev nD) : G2 m c = fun i => prod (m ((c : Thread nD τ).loc main_arg0)) (m ((c : Thread nD τ).loc main_arg2)) i := by
  rw [← final2]
  refine (dats m 0 c).arrAt_eq_of_covers 2 _ (by decide +kernel) fun t hf y => ?_
  blk_simp
  rw [after0_2, lastC m c t ((flush0_2 t).mp hf), Pipeline.eq_sum_fin_of_reset_step_apply_of_flush (fun n h => (outsAt0 m c n h).2) 8 (fun _ => 0)
    (fun p j => part (iblk m c 0 p) (iblk m c 1 p) j) (fun t h j => stepA m c t h j) (fun t h j => stepB m c t h j) t ((flush0_2 t).mp hf) _, zero_add]
  unfold part prod
  refine Fin.sum_mul_add_congr fun s k hl => ?_
  have i1 := idx ⟨_, Pipeline.run_point_lt_of_flush t ((flush0_2 t).mp hf) s⟩
  blk_point [iblk, V, idx t, i1]

end Cert.Proof.Dwg
end
-- ==== Proof.DwgClaim.lean ====
module

public import proofs.«01_k».proof.Defs
public import proofs.«01_k».proof.Proof.Dwg
public import proofs.«01_k».proof.Proof.Gen.DwgRefIdeal.Read

@[expose] public section

set_option maxRecDepth 16384

noncomputable section

namespace Cert.Proof.Dwg

open Idealize.ShloMosaic Idealize.ShloMosaic.TcCoe Idealize.SL.Sem

theorem reference (A : Vec Ideal Cert.DwgIdeal.S8192x2048 .f32) (B : Vec Ideal Cert.DwgIdeal.S8192x5632 .f32) (i : Cert.DwgIdeal.S2048x5632.Idx) :
    Cert.DwgRefIdeal.Read.val_main_v3 (F := Ideal) A B i = prod A B i := by
  unfold prod
  pointwise [Cert.DwgRefIdeal.Read.val_main_v3, Cert.DwgRefIdeal.Read.val_main_v2, Cert.DwgRefIdeal.Read.val_main_v1]
  exact Finset.sum_congr rfl fun l _ => mul_comm _ _

theorem algebraic : Cert.algebraic_DwgIdeal_DwgRefIdeal (hDwgIdeal := Cert.DwgIdeal.Gen.facts) (hDwgRefIdeal := Cert.DwgRefIdeal.Gen.facts) := by
  intro m g m' g' _ hagree
  refine ⟨fun c => Cert.DwgIdeal.Value.G2 m c, Cert.DwgIdeal.Value.run m g, ?_⟩
  refine (θ_run _ _ _).mono (fun r h c => ⟨(h c).1.trans ?_, (h c).2⟩) (Cert.DwgRefIdeal.Value.run (F := Ideal) m' g')
  rw [(hagree c).1, (hagree c).2.2, show (fun c => Cert.DwgIdeal.Value.G2 m c) c = _ from value m c]
  exact (Cert.DwgRefIdeal.Read.val_main_v3_eq _ _).trans (funext fun i => reference _ _ i)

end Cert.Proof.Dwg

end
-- ==== Proof.Dwout.lean ====
module

public import proofs.«01_k».proof.Proof.Gen.DwoutIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

namespace Cert.Proof.Dwout

open Cert.DwoutIdeal Cert.DwoutIdeal.Gen Cert.DwoutIdeal.Value Idealize.ShloMosaic Idealize.ShloMosaic.TcCoe Idealize.SL.Sem

/-- The product of two arrays over their first axes. -/
def prod (A : Vec Ideal S8192x2048 .f32) (B : Vec Ideal S8192x2048 .f32) (i : S2048x2048.Idx) : EReal :=
  ∑ l : Fin 8192, A (ix2 l (i 0)) * B (ix2 l (i 1))

variable (m : (ℓ : Loc nD τ sig) → Buf (Elt Ideal) ℓ)

def part (x0 : Vec Ideal S1024x1024 .bf16) (x1 : Vec Ideal S1024x2048 .bf16) (j : S1024x2048.Idx) : EReal :=
  ∑ k : Fin 1024, x0 (ix2 k (j 0)) * x1 (ix2 k (j 1))

theorem stepA (c : Dev nD) (t : Fin cfg0.N) (h0 : t.val % 8 = 0) (j : S1024x2048.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  refine (Kit.canon_of_cover [_] j [_, _] (View.cover_of_tiledL _ ![512, 2048] (by sl_kernel_rfl) j)).trans ?_
  unfold part
  canon_tiles x h using (View.cover_of_tiledL _ ![512, 2048] (by sl_kernel_rfl) j)
  all_goals (open_payloads; pointwise; blk_point [k0_pay1])

theorem stepB (c : Dev nD) (t : Fin cfg0.N) (h0 : ¬t.val % 8 = 0) (j : S1024x2048.Idx) :
    (outsAt0 m c t.val t.isLt).2 j = (outsAt0 m c (t.val - 1) (Nat.lt_of_le_of_lt (Nat.sub_le _ _) t.isLt)).2 j
      + part (iblk m c 0 t) (iblk m c 1 t) j := by
  by_cases h1 : t.val % 8 = 7
  · rw [outsAt0_C m c t h0 h1]
    frame_out
    simp only [read_unread_whole]
    unfold part
    canon_tiles x h using (View.cover_of_tiledL _ ![512, 2048] (by sl_kernel_rfl) j)
    all_goals (open_payloads; pointwise; blk_point [])
  · rw [outsAt0_B m c t h0 h1]
    frame_out
    simp only [read_unread_whole]
    unfold part
    canon_tiles x h using (View.cover_of_tiledL _ ![512, 2048] (by sl_kernel_rfl) j)
    all_goals (open_payloads; pointwise; blk_point [])

theorem lastC (c : Dev nD) (t : Fin cfg0.N) (h1 : t.val % 8 = 7) (j : S1024x2048.Idx) :
    (outsAt0 m c t.val t.isLt).1 j = (outsAt0 m c t.val t.isLt).2 j := by
  rw [outsAt0_C m c t (by omega) h1]
  frame_out
  rw [View.readCov_eq_canon']
  pointwise [k0_pay4]

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem value (c : Dev nD) : G2 m c = fun i => prod (m ((c : Thread nD τ).loc main_arg0)) (m ((c : Thread nD τ).loc main_arg2)) i := by
  rw [← final2]
  refine (dats m 0 c).arrAt_eq_of_covers 2 _ (by decide +kernel) fun t hf y => ?_
  blk_simp
  rw [after0_2, lastC m c t ((flush0_2 t).mp hf), Pipeline.eq_sum_fin_of_reset_step_apply_of_flush (fun n h => (outsAt0 m c n h).2) 8 (fun _ => 0)
    (fun p j => part (iblk m c 0 p) (iblk m c 1 p) j) (fun t h j => stepA m c t h j) (fun t h j => stepB m c t h j) t ((flush0_2 t).mp hf) _, zero_add]
  unfold part prod
  refine Fin.sum_mul_add_congr fun s k hl => ?_
  have i1 := idx ⟨_, Pipeline.run_point_lt_of_flush t ((flush0_2 t).mp hf) s⟩
  blk_point [iblk, V, idx t, i1]

end Cert.Proof.Dwout
end
-- ==== Proof.DwoutClaim.lean ====
module

public import proofs.«01_k».proof.Defs
public import proofs.«01_k».proof.Proof.Dwout
public import proofs.«01_k».proof.Proof.Gen.DwoutRefIdeal.Read

@[expose] public section

set_option maxRecDepth 16384

noncomputable section

namespace Cert.Proof.Dwout

open Idealize.ShloMosaic Idealize.ShloMosaic.TcCoe Idealize.SL.Sem

theorem reference (A : Vec Ideal Cert.DwoutIdeal.S8192x2048 .f32) (B : Vec Ideal Cert.DwoutIdeal.S8192x2048 .f32) (i : Cert.DwoutIdeal.S2048x2048.Idx) :
    Cert.DwoutRefIdeal.Read.val_main_v3 (F := Ideal) A B i = prod A B i := by
  unfold prod
  pointwise [Cert.DwoutRefIdeal.Read.val_main_v3, Cert.DwoutRefIdeal.Read.val_main_v2, Cert.DwoutRefIdeal.Read.val_main_v1]
  exact Finset.sum_congr rfl fun l _ => mul_comm _ _

theorem algebraic : Cert.algebraic_DwoutIdeal_DwoutRefIdeal (hDwoutIdeal := Cert.DwoutIdeal.Gen.facts) (hDwoutRefIdeal := Cert.DwoutRefIdeal.Gen.facts) := by
  intro m g m' g' _ hagree
  refine ⟨fun c => Cert.DwoutIdeal.Value.G2 m c, Cert.DwoutIdeal.Value.run m g, ?_⟩
  refine (θ_run _ _ _).mono (fun r h c => ⟨(h c).1.trans ?_, (h c).2⟩) (Cert.DwoutRefIdeal.Value.run (F := Ideal) m' g')
  rw [(hagree c).1, (hagree c).2.2, show (fun c => Cert.DwoutIdeal.Value.G2 m c) c = _ from value m c]
  exact (Cert.DwoutRefIdeal.Read.val_main_v3_eq _ _).trans (funext fun i => reference _ _ i)

end Cert.Proof.Dwout

end
-- ==== Proof.Dwin.lean ====
module

public import proofs.«01_k».proof.Proof.Gen.DwinIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

namespace Cert.Proof.Dwin

open Cert.DwinIdeal Cert.DwinIdeal.Gen Cert.DwinIdeal.Value Idealize.ShloMosaic Idealize.ShloMosaic.TcCoe Idealize.SL.Sem

/-- The product of two arrays over their first axes. -/
def prod (A : Vec Ideal S8192x2048 .f32) (B : Vec Ideal S8192x5120 .f32) (i : S2048x5120.Idx) : EReal :=
  ∑ l : Fin 8192, A (ix2 l (i 0)) * B (ix2 l (i 1))

variable (m : (ℓ : Loc nD τ sig) → Buf (Elt Ideal) ℓ)

def part (x0 : Vec Ideal S1024x2048 .bf16) (x1 : Vec Ideal S1024x1280 .bf16) (j : S2048x1280.Idx) : EReal :=
  ∑ k : Fin 1024, x0 (ix2 k (j 0)) * x1 (ix2 k (j 1))

theorem stepA (c : Dev nD) (t : Fin cfg0.N) (h0 : t.val % 8 = 0) (j : S2048x1280.Idx) :
    (outsAt0 m c t.val t.isLt).2 j = 0 + part (iblk m c 0 t) (iblk m c 1 t) j := by
  rw [outsAt0_A m c t h0 (by omega)]
  frame_open
  simp (disch := decide) only [↓ View.readCov_skip, ↓ View.readCov_cons_toLoadRect, ↓ View.readCov_fill]
  frame_out
  refine (Kit.canon_of_cover [_] j [_, _, _, _] (View.cover_of_tiledL _ ![512, 1280] (by sl_kernel_rfl) j)).trans ?_
  unfold part
  canon_tiles x h using (View.cover_of_tiledL _ ![512, 1280] (by sl_kernel_rfl) j)
  all_goals (open_payloads; pointwise; blk_point [k0_pay4])

theorem stepB (c : Dev nD) (t : Fin cfg0.N) (h0 : ¬t.val % 8 = 0) (j : S2048x1280.Idx) :
    (outsAt0 m c t.val t.isLt).2 j = (outsAt0 m c (t.val - 1) (Nat.lt_of_le_of_lt (Nat.sub_le _ _) t.isLt)).2 j
      + part (iblk m c 0 t) (iblk m c 1 t) j := by
  by_cases h1 : t.val % 8 = 7
  · rw [outsAt0_C m c t h0 h1]
    frame_out
    simp only [read_unread_whole]
    unfold part
    canon_tiles x h using (View.cover_of_tiledL _ ![512, 1280] (by sl_kernel_rfl) j)
    all_goals (open_payloads; pointwise; blk_point [])
  · rw [outsAt0_B m c t h0 h1]
    frame_out
    simp only [read_unread_whole]
    unfold part
    canon_tiles x h using (View.cover_of_tiledL _ ![512, 1280] (by sl_kernel_rfl) j)
    all_goals (open_payloads; pointwise; blk_point [])

theorem lastC (c : Dev nD) (t : Fin cfg0.N) (h1 : t.val % 8 = 7) (j : S2048x1280.Idx) :
    (outsAt0 m c t.val t.isLt).1 j = (outsAt0 m c t.val t.isLt).2 j := by
  rw [outsAt0_C m c t (by omega) h1]
  frame_out
  rw [View.readCov_eq_canon']
  pointwise [k0_pay3]

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem value (c : Dev nD) : G2 m c = fun i => prod (m ((c : Thread nD τ).loc main_arg0)) (m ((c : Thread nD τ).loc main_arg2)) i := by
  rw [← final2]
  refine (dats m 0 c).arrAt_eq_of_covers 2 _ (by decide +kernel) fun t hf y => ?_
  blk_simp
  rw [after0_2, lastC m c t ((flush0_2 t).mp hf), Pipeline.eq_sum_fin_of_reset_step_apply_of_flush (fun n h => (outsAt0 m c n h).2) 8 (fun _ => 0)
    (fun p j => part (iblk m c 0 p) (iblk m c 1 p) j) (fun t h j => stepA m c t h j) (fun t h j => stepB m c t h j) t ((flush0_2 t).mp hf) _, zero_add]
  unfold part prod
  refine Fin.sum_mul_add_congr fun s k hl => ?_
  have i1 := idx ⟨_, Pipeline.run_point_lt_of_flush t ((flush0_2 t).mp hf) s⟩
  blk_point [iblk, V, idx t, i1]

end Cert.Proof.Dwin
end
-- ==== Proof.DwinClaim.lean ====
module

public import proofs.«01_k».proof.Defs
public import proofs.«01_k».proof.Proof.Dwin
public import proofs.«01_k».proof.Proof.Gen.DwinRefIdeal.Read

@[expose] public section

set_option maxRecDepth 16384

noncomputable section

namespace Cert.Proof.Dwin

open Idealize.ShloMosaic Idealize.ShloMosaic.TcCoe Idealize.SL.Sem

theorem reference (A : Vec Ideal Cert.DwinIdeal.S8192x2048 .f32) (B : Vec Ideal Cert.DwinIdeal.S8192x5120 .f32) (i : Cert.DwinIdeal.S2048x5120.Idx) :
    Cert.DwinRefIdeal.Read.val_main_v3 (F := Ideal) A B i = prod A B i := by
  unfold prod
  pointwise [Cert.DwinRefIdeal.Read.val_main_v3, Cert.DwinRefIdeal.Read.val_main_v2, Cert.DwinRefIdeal.Read.val_main_v1]
  exact Finset.sum_congr rfl fun l _ => mul_comm _ _

theorem algebraic : Cert.algebraic_DwinIdeal_DwinRefIdeal (hDwinIdeal := Cert.DwinIdeal.Gen.facts) (hDwinRefIdeal := Cert.DwinRefIdeal.Gen.facts) := by
  intro m g m' g' _ hagree
  refine ⟨fun c => Cert.DwinIdeal.Value.G2 m c, Cert.DwinIdeal.Value.run m g, ?_⟩
  refine (θ_run _ _ _).mono (fun r h c => ⟨(h c).1.trans ?_, (h c).2⟩) (Cert.DwinRefIdeal.Value.run (F := Ideal) m' g')
  rw [(hagree c).1, (hagree c).2.2, show (fun c => Cert.DwinIdeal.Value.G2 m c) c = _ from value m c]
  exact (Cert.DwinRefIdeal.Read.val_main_v3_eq _ _).trans (funext fun i => reference _ _ i)

end Cert.Proof.Dwin

end
-- ==== Proof.PrepBlock.lean ====
module

public import proofs.«01_k».proof.Proof.Gen.PrepIdeal.Value
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

/-! One block of rows. The sums of squares over a head are products with a matrix of zeros and ones, eight
strips of 128 columns one after the other, each of a rounded part and of what the rounding left. -/

namespace Cert.Proof.Prep

open Cert.PrepIdeal Cert.PrepIdeal.Gen Idealize.ShloMosaic Idealize.ShloMosaic.TcCoe

/-- The sum of a strip's columns against the matrix. -/
def strip (u : Fin 1024 → EReal) (b : Vec Ideal S128x128 .bf16) (n : Fin 1024) : EReal :=
  ∑ k : Fin 128, u ⟨n.val / 128 * 128 + k.val, by omega⟩ * b (ix2 k ⟨n.val % 128, by omega⟩)

/-- A normalised element of a row: times the reciprocal root of the mean square of its head, times its scale. -/
def cell (u : Fin 1024 → EReal) (g : Vec Ideal S1x1024 .f32) (b : Vec Ideal S128x128 .bf16) (n : Fin 1024) : EReal :=
  u n * Ideal.rsqrt ((strip (fun n => u n * u n) b n + strip (fun n => u n * u n - u n * u n) b n) * Ideal.ofBits .f32 0x3C800000#32
    + Ideal.ofBits .f32 0x358637BD#32) * g (ix2 0 n)

/-- The normalised block. -/
def heads (x : Vec Ideal S256x1024 .f32) (g : Vec Ideal S1x1024 .f32) (b : Vec Ideal S128x128 .bf16) (j : S256x1024.Idx) : EReal :=
  cell (fun n => x (ix2 (j 0) n)) g b (j 1)

/-- One of the later strips, where its columns start at `q`. -/
theorem strip_at (w v : Fin 1024 → EReal) (b : Vec Ideal S128x128 .bf16) (n : Fin 1024) (q m : ℕ) (hq : q = n.val / 128 * 128) (hm : m = n.val % 128)
    (hk : ∀ k : Fin 128, q + k.val < 1024) (hl : m < 128) :
    (∑ k : Fin 128, w ⟨q + k.val, hk k⟩ * b (ix2 k ⟨m, hl⟩)) + (∑ k : Fin 128, v ⟨q + k.val, hk k⟩ * b (ix2 k ⟨m, hl⟩)) = strip w b n + strip v b n := by
  subst hq hm; rfl

/-- The first strip. -/
theorem strip_first (w v : Fin 1024 → EReal) (b : Vec Ideal S128x128 .bf16) (n : Fin 1024) (hn : n.val < 128) (hk : ∀ k : Fin 128, k.val < 1024) :
    (∑ k : Fin 128, w ⟨k.val, hk k⟩ * b (ix2 k ⟨n.val, hn⟩)) + (∑ k : Fin 128, v ⟨k.val, hk k⟩ * b (ix2 k ⟨n.val, hn⟩)) = strip w b n + strip v b n := by
  rw [← strip_at w v b n 0 n.val (by omega) (by omega) (fun k => by omega) hn]
  simp only [Nat.zero_add]

variable (x : Vec Ideal S256x1024 .f32) (g : Vec Ideal S1x1024 .f32) (b : FVec Ideal S128x128 .bf16)

set_option maxHeartbeats 1600000 in
theorem keys (r : Fin 256) (n : Fin 1024) :
    k0_pay1 (F := Ideal) b x (k0_pay16 x) (k0_pay17 x) (k0_pay18 b x) (k0_pay19 b x) (k0_pay20 b x) (k0_pay21 b x) g (ix2 r n) = heads x g b (ix2 r n) := by
  unfold heads cell
  pointwise [k0_pay1, k0_pay18, k0_pay19, k0_pay20, k0_pay21, k0_pay17, k0_pay16, k0_pay15]
  refine congrArg (· * _) (congrArg (_ * ·) (congrArg Ideal.rsqrt (congrArg (· + _) (congrArg (· * _) ?_))))
  split_ifs
  all_goals first
    | exact strip_first (fun n => x (ix2 r n) * x (ix2 r n)) (fun n => x (ix2 r n) * x (ix2 r n) - x (ix2 r n) * x (ix2 r n)) b n _ _
    | exact strip_at (fun n => x (ix2 r n) * x (ix2 r n)) (fun n => x (ix2 r n) * x (ix2 r n) - x (ix2 r n) * x (ix2 r n)) b n _ _ (by omega) (by omega) _ _

set_option maxHeartbeats 1600000 in
theorem queries (r : Fin 256) (n : Fin 1024) :
    k0_pay14 (F := Ideal) (k0_pay2 b) x (k0_pay4 x) (k0_pay5 x) (k0_pay6 b x) (k0_pay7 b x) (k0_pay8 b x) (k0_pay9 b x) (k0_pay10 b x) (k0_pay11 b x)
      (k0_pay12 b x) (k0_pay13 x) (constant S256x128 .f32 0x00000000#32) g (ix2 r n) = heads x g b (ix2 r n) := by
  unfold heads cell
  pointwise [k0_pay14, k0_pay2, k0_pay3, k0_pay4, k0_pay5, k0_pay6, k0_pay7, k0_pay8, k0_pay9, k0_pay10, k0_pay11, k0_pay12, k0_pay13]
  refine congrArg (· * _) (congrArg (_ * ·) (congrArg Ideal.rsqrt (congrArg (· + _) (congrArg (· * _) ?_))))
  split_ifs
  all_goals first
    | exact strip_first (fun n => x (ix2 r n) * x (ix2 r n)) (fun n => x (ix2 r n) * x (ix2 r n) - x (ix2 r n) * x (ix2 r n)) b n _ _
    | exact strip_at (fun n => x (ix2 r n) * x (ix2 r n)) (fun n => x (ix2 r n) * x (ix2 r n) - x (ix2 r n) * x (ix2 r n)) b n _ _ (by omega) (by omega) _ _

theorem keys' (j : S256x1024.Idx) :
    k0_pay1 (F := Ideal) b x (k0_pay16 x) (k0_pay17 x) (k0_pay18 b x) (k0_pay19 b x) (k0_pay20 b x) (k0_pay21 b x) g j = heads x g b j := by
  rw [← ix2_eta j]; exact keys x g b _ _

theorem queries' (j : S256x1024.Idx) :
    k0_pay14 (F := Ideal) (k0_pay2 b) x (k0_pay4 x) (k0_pay5 x) (k0_pay6 b x) (k0_pay7 b x) (k0_pay8 b x) (k0_pay9 b x) (k0_pay10 b x) (k0_pay11 b x)
      (k0_pay12 b x) (k0_pay13 x) (constant S256x128 .f32 0x00000000#32) g j = heads x g b j := by
  rw [← ix2_eta j]; exact queries x g b _ _

/-- What a point writes: the queries, the keys and the values side by side. -/
def block (x y z : Vec Ideal S256x1024 .f32) (gq gk : Vec Ideal S1x1024 .f32) (b : Vec Ideal S128x128 .bf16) (j : S256x3072.Idx) : EReal :=
  if h : (j 1).val < 1024 then heads x gq b (ix2 (j 0) ⟨(j 1).val, h⟩)
  else if h : (j 1).val < 2048 then heads y gk b (ix2 (j 0) ⟨(j 1).val - 1024, by omega⟩)
  else z (ix2 (j 0) ⟨(j 1).val - 2048, by have : (j 1).val < 3072 := (j 1).isLt; omega⟩)

theorem stored (x y z : Vec Ideal S256x1024 .f32) (gq gk : Vec Ideal S1x1024 .f32) (b : Vec Ideal S128x128 .bf16) (j : S256x3072.Idx) :
    out0_6 x y z gq gk b j = block x y z gq gk b j := by
  unfold out0_6 k0_pay22
  frame_out
  unfold block
  canon_tiles x h
  · rw [dif_neg (by omega), dif_neg (by omega)]
    exact congrArg z (funext fun | 0 => Fin.ext h0.symm | 1 => Fin.ext (by show (x 1).val = (j 1).val - 2048; omega))
  · rw [dif_neg (by omega), dif_pos (by omega)]
    refine (keys' y gk (k0_pay2 b) x).trans ?_
    rw [show k0_pay2 b = b from shapeCast_self _ _]
    exact congrArg _ (funext fun | 0 => Fin.ext h0.symm | 1 => Fin.ext (by show (x 1).val = (j 1).val - 1024; omega))
  · rw [dif_pos (by omega)]
    refine (queries' _ gq b x).trans ?_
    exact congrArg _ (funext fun | 0 => Fin.ext h0.symm | 1 => Fin.ext h1.symm)

end Cert.Proof.Prep
-- ==== Proof.PrepHost.lean ====
module

public import proofs.«01_k».proof.Proof.Gen.PrepIdeal.Value
public import proofs.«01_k».proof.Proof.Kit
public import Idealize.ShloMosaic.Lib.Pointwise
public import Idealize.ShloMosaic.Lib.ValueIdx

@[expose] public section

set_option maxRecDepth 16384

noncomputable section

/-! What the host hands the kernel: the scales repeated over the heads, and the matrix of zeros and ones that is one
where row and column lie in one head. -/

namespace Cert.Proof.Prep

open Cert.PrepIdeal Cert.PrepIdeal.Gen Idealize.ShloMosaic Idealize.ShloMosaic.TcCoe Idealize.SL.Sem

variable (m : (ℓ : Loc nD τ sig) → Buf (Elt Ideal) ℓ)

/-- The scales of a head, once per head. -/
def tiled (g : FVec Ideal S1x64 .f32) : FVec Ideal S1x1024 .f32 :=
  shapeCast _ (broadcastInDim S1x1x16x64 ![0, 1, 2, 3] bcast_S1x1x1x64_S1x1x16x64_0_1_2_3 (shapeCast S1x1x1x64 g shapeCasts_S1x64_S1x1x1x64)) shapeCasts_S1x1x16x64_S1x1024

theorem host_keys (c : Dev nD) : V (F := Ideal) m c main_v15 = tiled (m ((c : Thread nD τ).loc main_arg2)) := by
  unfold_abbrev_sides
  simp only [hostOps0, hostOps0_1, hostOps0_2, List.flatten_cons, List.flatten_nil, List.cons_append,
    List.nil_append, StableHlo.TRef.binary, StableHlo.TRef.nullary, StableHlo.TRef.unary, StableHlo.TRef.ternary, StableHlo.TRef.toBuf, StableHlo.TRef.ofBuf, cast_eq]
  after_results
  rfl

theorem host_queries (c : Dev nD) : V (F := Ideal) m c main_v12
    = mulf (tiled (m ((c : Thread nD τ).loc main_arg1))) (broadcastInDim S1x1024 ![] bcast_S_S1x1024 (constant S_ .f32 0x3E000000#32)) := by
  unfold_abbrev_sides
  simp only [hostOps0, hostOps0_1, hostOps0_2, List.flatten_cons, List.flatten_nil, List.cons_append,
    List.nil_append, StableHlo.TRef.binary, StableHlo.TRef.nullary, StableHlo.TRef.unary, StableHlo.TRef.ternary, StableHlo.TRef.toBuf, StableHlo.TRef.ofBuf, cast_eq]
  after_results
  rfl

theorem tiled_apply (g : FVec Ideal S1x64 .f32) (n : Fin 1024) : tiled g (ix2 0 n) = g (ix2 0 ⟨n.val % 64, by omega⟩) := by
  pointwise [tiled]

/-- The head of a column of a strip, as the host divides it. -/
def head : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

theorem head_apply : ∀ n : Fin 128, head (ix1 n) = BitVec.ofNat 32 (n.val / 64) := by decide +kernel

/-- The matrix of the heads. -/
def matrix : FVec Ideal S128x128 .bf16 :=
  uitofp .bf16 (cmpi .eq (broadcastInDim S128x128 ![0, 1] bcast_S128x1_S128x128_0_1 (broadcastInDim S128x1 ![0] bcast_S128_S128x1_0 head))
    (broadcastInDim S128x128 ![0, 1] bcast_S1x128_S128x128_0_1 (broadcastInDim S1x128 ![1] bcast_S128_S1x128_1 head)))

theorem matrix_apply (k n : Fin 128) : matrix (ix2 k n) = if k.val / 64 = n.val / 64 then 1 else 0 := by
  pointwise [matrix]
  rw [head_apply, head_apply]
  have e : (BitVec.ofNat 32 (k.val / 64) = BitVec.ofNat 32 (n.val / 64)) ↔ k.val / 64 = n.val / 64 := by
    rw [← BitVec.toNat_inj, BitVec.toNat_ofNat, BitVec.toNat_ofNat]; omega
  by_cases h : k.val / 64 = n.val / 64
  · rw [if_pos h, h, Idealize.ShloMosaic.WordCmp.cmpi_eq_eq, decide_eq_true rfl]
    show (((BitVec.ofBool true).toNat : ℝ) : EReal) = 1
    simp
  · rw [if_neg h, Idealize.ShloMosaic.WordCmp.cmpi_eq_eq, decide_eq_false (mt e.1 h)]
    show (((BitVec.ofBool false).toNat : ℝ) : EReal) = 0
    simp

theorem host_matrix (c : Dev nD) : V (F := Ideal) m c main_v7 = matrix := by
  unfold_abbrev_sides
  simp only [hostOps0, hostOps0_1, hostOps0_2, List.flatten_cons, List.flatten_nil, List.cons_append,
    List.nil_append, StableHlo.TRef.binary, StableHlo.TRef.nullary, StableHlo.TRef.unary, StableHlo.TRef.ternary, StableHlo.TRef.toBuf, StableHlo.TRef.ofBuf, cast_eq]
  after_results
  rfl

end Cert.Proof.Prep
-- ==== Proof.PrepValue.lean ====
module

public import proofs.«01_k».proof.Proof.PrepBlock
public import proofs.«01_k».proof.Proof.PrepHost

@[expose] public section

set_option maxRecDepth 16384

noncomputable section

/-! The call's result: rows of normalised queries, normalised keys, and the values as they came. -/

namespace Cert.Proof.Prep

open Cert.PrepIdeal Cert.PrepIdeal.Gen Cert.PrepIdeal.Value Idealize.ShloMosaic Idealize.ShloMosaic.TcCoe Idealize.SL.Sem

/-- A row of the argument from column `o` on. -/
def row (z : Vec Ideal S8192x5120 .f32) (o : ℕ) (ho : o ≤ 4096) (r : Fin 8192) (n : Fin 1024) : EReal :=
  z (ix2 r ⟨o + n.val, by omega⟩)

/-- The scales of the queries. -/
def scaled (g : FVec Ideal S1x64 .f32) : FVec Ideal S1x1024 .f32 :=
  mulf (tiled g) (broadcastInDim S1x1024 ![] bcast_S_S1x1024 (constant S_ .f32 0x3E000000#32))

/-- The result. -/
def result (z : Vec Ideal S8192x5120 .f32) (gq gk : Vec Ideal S1x64 .f32) (i : S8192x3072.Idx) : EReal :=
  if h : (i 1).val < 1024 then cell (row z 2048 (by omega) (i 0)) (scaled gq) matrix ⟨(i 1).val, h⟩
  else if h : (i 1).val < 2048 then cell (row z 3072 (by omega) (i 0)) (tiled gk) matrix ⟨(i 1).val - 1024, by omega⟩
  else row z 4096 (by omega) (i 0) ⟨(i 1).val - 2048, by have : (i 1).val < 3072 := (i 1).isLt; omega⟩

variable (m : (ℓ : Loc nD τ sig) → Buf (Elt Ideal) ℓ)

theorem idx : ∀ t : Fin cfg0.N, win0_0.index t = ![t.val, 2] ∧ win0_1.index t = ![t.val, 3] ∧ win0_2.index t = ![t.val, 4]
    ∧ win0_3.index t = ![0, 0] ∧ win0_4.index t = ![0, 0] ∧ win0_5.index t = ![0, 0] ∧ win0_6.index t = ![t.val, 0] :=
  (by decide +kernel : ∀ t : Fin grid0.N, _)

/-- The rows of a point. -/
theorem rows (t : Fin cfg0.N) (r : Fin 256) : t.val * 256 + r.val < 8192 := by
  have : t.val < 32 := t.isLt
  omega

theorem block_queries (c : Dev nD) (t : Fin cfg0.N) (r : Fin 256) (n : Fin 1024) :
    iblk m c 0 t (ix2 r n) = row (m ((c : Thread nD τ).loc main_arg0)) 2048 (by omega) ⟨t.val * 256 + r.val, rows t r⟩ n := by
  unfold row
  blk_point [iblk, V, idx t]

theorem block_keys (c : Dev nD) (t : Fin cfg0.N) (r : Fin 256) (n : Fin 1024) :
    iblk m c 1 t (ix2 r n) = row (m ((c : Thread nD τ).loc main_arg0)) 3072 (by omega) ⟨t.val * 256 + r.val, rows t r⟩ n := by
  unfold row
  blk_point [iblk, V, idx t]

theorem block_values (c : Dev nD) (t : Fin cfg0.N) (r : Fin 256) (n : Fin 1024) :
    iblk m c 2 t (ix2 r n) = row (m ((c : Thread nD τ).loc main_arg0)) 4096 (by omega) ⟨t.val * 256 + r.val, rows t r⟩ n := by
  unfold row
  blk_point [iblk, V, idx t]

theorem block_scale_queries (c : Dev nD) (t : Fin cfg0.N) : iblk m c 3 t = scaled (m ((c : Thread nD τ).loc main_arg1)) := by
  unfold scaled
  rw [← host_queries]
  funext j
  blk_point [iblk, idx t]

theorem block_scale_keys (c : Dev nD) (t : Fin cfg0.N) : iblk m c 4 t = tiled (m ((c : Thread nD τ).loc main_arg2)) := by
  rw [← host_keys]
  funext j
  blk_point [iblk, idx t]

theorem block_matrix (c : Dev nD) (t : Fin cfg0.N) : iblk m c 5 t = matrix := by
  rw [← host_matrix m c]
  funext j
  blk_point [iblk, idx t]

/-- Where an element of a point's block lies in the result. -/
theorem place (t : Fin cfg0.N) (y : S256x3072.Idx) : (win0_6.blk t).view.emb y = ix2 ⟨t.val * 256 + (y 0).val, rows t (y 0)⟩ (y 1) := by
  blk_point [idx t]

theorem value (c : Dev nD) : (dats m 0 c).arrAt 6 cfg0.N
    = result (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, stored, block_scale_queries, block_scale_keys, block_matrix]
  refine Eq.trans ?_ (congrArg (result _ _ _) (place t y)).symm
  unfold block result heads
  refine dite_congr rfl (fun h => ?_) fun h => dite_congr rfl (fun h' => ?_) fun h' => ?_
  · exact congrArg (cell · _ _ _) (funext fun n => block_queries m c t (y 0) n)
  · exact congrArg (cell · _ _ _) (funext fun n => block_keys m c t (y 0) n)
  · exact block_values m c t (y 0) _

end Cert.Proof.Prep

end
-- ==== Proof.PrepHeads.lean ====
module

public import proofs.«01_k».proof.Proof.PrepValue

@[expose] public section

set_option maxRecDepth 16384

noncomputable section

/-! The sums over a head. A product with the matrix of the heads adds up the 64 columns of a head, and what rounding
leaves of a real square is zero. -/

namespace Cert.Proof.Prep

open Cert.PrepIdeal Cert.PrepIdeal.Gen Idealize.ShloMosaic Idealize.ShloMosaic.TcCoe

/-- A normalised element of a row, written plainly. -/
def plain (u : Fin 1024 → EReal) (g : Vec Ideal S1x64 .f32) (n : Fin 1024) : EReal :=
  u n * Ideal.rsqrt (Ideal.div (∑ k : Fin 64, u ⟨n.val / 64 * 64 + k.val, by omega⟩ * u ⟨n.val / 64 * 64 + k.val, by omega⟩) (Ideal.ofBits .f32 0x42800000#32)
    + Ideal.ofBits .f32 0x358637BD#32) * g (ix2 0 ⟨n.val % 64, by omega⟩)

/-- A strip against the matrix is the sum of a head. -/
theorem strip_matrix (w : Fin 1024 → EReal) (n : Fin 1024) : strip w matrix n = ∑ k : Fin 64, w ⟨n.val / 64 * 64 + k.val, by omega⟩ := by
  unfold strip
  simp only [matrix_apply]
  refine (Fin.sum_univ_add (a := 64) (b := 64) _).trans ?_
  by_cases h : n.val % 128 / 64 = 0
  · refine (congrArg₂ (· + ·) (Finset.sum_congr rfl fun k _ => ?_) (Finset.sum_eq_zero fun k _ => ?_)).trans (add_zero _)
    · rw [if_pos (by show k.val / 64 = n.val % 128 / 64; omega), mul_one]
      exact congrArg w (Fin.ext (by show n.val / 128 * 128 + k.val = n.val / 64 * 64 + k.val; omega))
    · rw [if_neg (by show ¬(64 + k.val) / 64 = n.val % 128 / 64; omega), mul_zero]
  · refine (congrArg₂ (· + ·) (Finset.sum_eq_zero fun k _ => ?_) (Finset.sum_congr rfl fun k _ => ?_)).trans (zero_add _)
    · rw [if_neg (by show ¬k.val / 64 = n.val % 128 / 64; omega), mul_zero]
    · rw [if_pos (by show (64 + k.val) / 64 = n.val % 128 / 64; omega), mul_one]
      exact congrArg w (Fin.ext (by show n.val / 128 * 128 + (64 + k.val) = n.val / 64 * 64 + k.val; omega))

/-- What rounding leaves of real squares adds up to nothing. -/
theorem strip_left (u : Fin 1024 → EReal) (hu : ∀ n, ∃ r : ℝ, u n = (r : EReal)) (n : Fin 1024) :
    strip (fun n => u n * u n - u n * u n) matrix n = 0 := by
  refine Finset.sum_eq_zero fun k _ => ?_
  obtain ⟨r, hr⟩ := hu ⟨n.val / 128 * 128 + k.val, by omega⟩
  show (u _ * u _ - u _ * u _) * _ = 0
  rw [hr, ← EReal.coe_mul, ← EReal.coe_sub, sub_self, EReal.coe_zero, zero_mul]

/-- The word of 1/64, and that of 64. -/
theorem ofBits_inv : Ideal.ofBits .f32 0x3C800000#32 = ((1 / 64 : ℝ) : EReal) := by
  simp [Ideal.ofBits, Ideal.ieee, -EReal.coe_mul]; norm_num

theorem ofBits_sixty_four : Ideal.ofBits .f32 0x42800000#32 = ((64 : ℝ) : EReal) := by
  simp [Ideal.ofBits, Ideal.ieee, -EReal.coe_mul]; norm_num

/-- The kernel's element is the plain one. -/
theorem cell_keys (u : Fin 1024 → EReal) (hu : ∀ n, ∃ r : ℝ, u n = (r : EReal)) (g : Vec Ideal S1x64 .f32) (n : Fin 1024) :
    cell u (tiled g) matrix n = plain u g n := by
  unfold cell plain
  rw [strip_left u hu, add_zero, strip_matrix, tiled_apply, ofBits_inv, ofBits_sixty_four, Ideal.div_coe (by norm_num)]

theorem cell_queries (u : Fin 1024 → EReal) (hu : ∀ n, ∃ r : ℝ, u n = (r : EReal)) (g : Vec Ideal S1x64 .f32) (n : Fin 1024) :
    cell u (scaled g) matrix n = plain u g n * Ideal.ofBits .f32 0x3E000000#32 := by
  rw [← cell_keys u hu]
  unfold cell
  rw [mul_assoc _ (tiled g _)]
  rfl

end Cert.Proof.Prep

end
-- ==== Proof.PrepClaim.lean ====
module

public import proofs.«01_k».proof.Defs
public import proofs.«01_k».proof.Proof.PrepHeads
public import proofs.«01_k».proof.Proof.Gen.PrepRefIdeal.Read
public import proofs.«01_k».proof.Proof.Gen.Pre_prep_finite

@[expose] public section

set_option maxRecDepth 16384

noncomputable section

namespace Cert.Proof.Prep

open Idealize.ShloMosaic Idealize.ShloMosaic.TcCoe Idealize.SL.Sem Cert.PrepRefIdeal.Read

variable (z : Vec Ideal Cert.PrepIdeal.S8192x5120 .f32) (gq gk : Vec Ideal Cert.PrepIdeal.S1x64 .f32)

theorem reference_queries (r : Fin 8192) (n : Fin 1024) : val_main_v17 (F := Ideal) z gq (ix2 r n) = plain (row z 2048 (by omega) r) gq n := by
  unfold plain row
  pointwise [val_main_v17, val_main_v16, val_main_v15, val_main_v14, val_main_v13, val_main_v12, val_main_v11, val_main_v10, val_main_v9, val_main_v8, val_main_v7,
    val_main_v6, val_main_v5, val_main_v4, val_main_v3, val_main_v0, val_main_cst, val_main_cst_0, val_main_cst_1]

theorem reference_keys (r : Fin 8192) (n : Fin 1024) : val_main_v34 (F := Ideal) z gk (ix2 r n) = plain (row z 3072 (by omega) r) gk n := by
  unfold plain row
  pointwise [val_main_v34, val_main_v33, val_main_v32, val_main_v31, val_main_v30, val_main_v29, val_main_v28, val_main_v27, val_main_v26, val_main_v25, val_main_v24,
    val_main_v23, val_main_v22, val_main_v21, val_main_v20, val_main_v1, val_main_cst_3, val_main_cst_4, val_main_cst_5]

/-- The reference puts the three side by side. -/
theorem joined (i : Cert.PrepIdeal.S8192x3072.Idx) : val_main_v36 (F := Ideal) z gq gk i
    = if h : (i 1).val < 1024 then val_main_v17 (F := Ideal) z gq (ix2 (i 0) ⟨(i 1).val, h⟩) * Ideal.ofBits .f32 0x3E000000#32
      else if h : (i 1).val < 2048 then val_main_v34 (F := Ideal) z gk (ix2 (i 0) ⟨(i 1).val - 1024, by omega⟩)
      else row z 4096 (by omega) (i 0) ⟨(i 1).val - 2048, by have : (i 1).val < 3072 := (i 1).isLt; omega⟩ := by
  unfold val_main_v36 val_main_v35 val_main_v19 val_main_v18 val_main_cst_2 row val_main_v2
  generalize val_main_v17 (F := Ideal) z gq = q
  generalize val_main_v34 (F := Ideal) z gk = k
  pointwise
  by_cases h : (i 1).val < 1024
  · rw [dif_pos h, dif_pos (by omega), dif_pos h]
  · by_cases h' : (i 1).val < 2048
    · rw [dif_neg h, dif_pos h', dif_pos h', dif_neg h]
    · rw [dif_neg h, dif_neg h', dif_neg h']

theorem reference_at (i : Cert.PrepIdeal.S8192x3072.Idx) : val_main_v36 (F := Ideal) z gq gk i
    = if h : (i 1).val < 1024 then plain (row z 2048 (by omega) (i 0)) gq ⟨(i 1).val, h⟩ * Ideal.ofBits .f32 0x3E000000#32
      else if h : (i 1).val < 2048 then plain (row z 3072 (by omega) (i 0)) gk ⟨(i 1).val - 1024, by omega⟩
      else row z 4096 (by omega) (i 0) ⟨(i 1).val - 2048, by have : (i 1).val < 3072 := (i 1).isLt; omega⟩ :=
  (joined z gq gk i).trans (dite_congr rfl (fun h => congrArg (· * _) (reference_queries z gq (i 0) _))
    fun h => dite_congr rfl (fun h' => reference_keys z gk (i 0) _) fun h' => rfl)

/-- What the precondition says: queries and keys are real. -/
theorem finite (h : @Cert.Pre_prep_finite.fn Cert.Pre_prep_finite.Gen.facts Ideal _ z gq gk = fun _ => 1#1) (r : Fin 8192) (n : Fin 2048) :
    ∃ a : ℝ, z (ix2 r ⟨2048 + n.val, by omega⟩) = (a : EReal) := by
  haveI : Subsingleton Cert.Pre_prep_finite.S_.Idx := ⟨fun a b => funext fun k => k.elim0⟩
  have e := congrFun h (fun k => k.elim0)
  unfold Cert.Pre_prep_finite.fn at e
  obtain ⟨a, ha⟩ := Kit.real_of_all _ _ _ _ _ _ e (ix2 r n)
  refine ⟨a, Eq.trans ?_ ha⟩
  pointwise

theorem reference (h : @Cert.Pre_prep_finite.fn Cert.Pre_prep_finite.Gen.facts Ideal _ z gq gk = fun _ => 1#1) (i : Cert.PrepIdeal.S8192x3072.Idx) :
    val_main_v36 (F := Ideal) z gq gk i = result z gq gk i := by
  have hq : ∀ n, ∃ a : ℝ, row z 2048 (by omega) (i 0) n = (a : EReal) := fun n => finite z gq gk h (i 0) ⟨n.val, by omega⟩
  have hk : ∀ n, ∃ a : ℝ, row z 3072 (by omega) (i 0) n = (a : EReal) := fun n => by
    obtain ⟨a, ha⟩ := finite z gq gk h (i 0) ⟨1024 + n.val, by omega⟩
    exact ⟨a, Eq.trans (congrArg z (congrArg (ix2 (i 0)) (Fin.ext (by show 3072 + n.val = 2048 + (1024 + n.val); omega)))) ha⟩
  rw [reference_at]
  unfold result
  exact dite_congr rfl (fun h => (cell_queries _ hq gq _).symm) fun h => dite_congr rfl (fun h' => (cell_keys _ hk gk _).symm) fun h' => rfl

theorem algebraic : Cert.algebraic_PrepIdeal_PrepRefIdeal_pre_prep_finite (hPrepIdeal := Cert.PrepIdeal.Gen.facts) (hPrepRefIdeal := Cert.PrepRefIdeal.Gen.facts)
    (hPre_prep_finite := Cert.Pre_prep_finite.Gen.facts) := by
  intro m g m' g' hpre hagree
  refine ⟨fun c => (Cert.PrepIdeal.Gen.dats m 0 c).arrAt 6 Cert.PrepIdeal.cfg0.N, Cert.PrepIdeal.Value.run_blocks m g, ?_⟩
  refine (θ_run _ _ _).mono (fun r h c => ⟨(h c).1.trans ?_, (h c).2⟩) (Cert.PrepRefIdeal.Value.run (F := Ideal) m' g')
  rw [(hagree c).1, (hagree c).2.1, (hagree c).2.2, show (fun c => (Cert.PrepIdeal.Gen.dats m 0 c).arrAt 6 Cert.PrepIdeal.cfg0.N) c = _ from value m c]
  exact (val_main_v36_eq _ _ _).trans (funext fun i => reference _ _ _ (hpre c) i)

end Cert.Proof.Prep

end
-- ==== Proof.AdamClaim.lean ====
module

public import proofs.«01_k».proof.Defs
public import proofs.«01_k».proof.Proof.Gen.AdamIdeal.Value
public import proofs.«01_k».proof.Proof.Gen.AdamRefIdeal.Read
public import Idealize.ShloMosaic.Lib.Pointwise
public import Idealize.ShloMosaic.Lib.ValueIdx

@[expose] public section

set_option maxRecDepth 16384

noncomputable section

namespace Cert.Proof.Adam

open Idealize.ShloMosaic Idealize.ShloMosaic.TcCoe Idealize.SL.Sem Cert.AdamRefIdeal.Read

variable (w g m v : Vec Ideal Cert.AdamIdeal.S1x2048 .f32)

/-- The first moment. -/
theorem moment (i : Cert.AdamIdeal.S1x2048.Idx) : val_main_v4 (F := Ideal) g m i = Cert.AdamIdeal.Value.G5 (F := Ideal) g m i := by
  pointwise [val_main_v4, val_main_v3, val_main_v2, val_main_v1, val_main_v0, val_main_cst, val_main_cst_0, Cert.AdamIdeal.Value.G5]

/-- The second moment. -/
theorem square (i : Cert.AdamIdeal.S1x2048.Idx) : val_main_v10 (F := Ideal) g v i = Cert.AdamIdeal.Value.G6 (F := Ideal) g v i := by
  pointwise [val_main_v10, val_main_v9, val_main_v8, val_main_v7, val_main_v6, val_main_v5, val_main_cst_1, val_main_cst_2, Cert.AdamIdeal.Value.G6]

/-- The change of the weights, from the two moments. -/
theorem change (i : Cert.AdamIdeal.S1x2048.Idx) : val_main_v23 (F := Ideal) w g m v i = Cert.AdamIdeal.Value.G4 (F := Ideal) w g m v i := by
  pointwise [val_main_v23, val_main_v22, val_main_v21, val_main_v20, val_main_v19, val_main_v18, val_main_v17, val_main_v16, val_main_v15, val_main_v14, val_main_v13,
    val_main_v12, val_main_v11, val_main_cst_3, val_main_cst_4, val_main_cst_5, val_main_cst_6, val_main_cst_7,
    val_main_v4, val_main_v3, val_main_v2, val_main_v1, val_main_v0, val_main_cst, val_main_cst_0,
    val_main_v10, val_main_v9, val_main_v8, val_main_v7, val_main_v6, val_main_v5, val_main_cst_1, val_main_cst_2, Cert.AdamIdeal.Value.G4]

theorem algebraic : Cert.algebraic_AdamIdeal_AdamRefIdeal (hAdamIdeal := Cert.AdamIdeal.Gen.facts) (hAdamRefIdeal := Cert.AdamRefIdeal.Gen.facts) := by
  intro m g m' g' _ hagree
  refine ⟨_, _, _, Cert.AdamIdeal.Value.run m g, ?_⟩
  refine (θ_run _ _ _).mono (fun r h c => ⟨(h c).1.trans ?_, (h c).2.1.trans ?_, (h c).2.2.1.trans ?_, (h c).2.2.2⟩) (Cert.AdamRefIdeal.Value.run (F := Ideal) m' g')
  · rw [(hagree c).1, (hagree c).2.1, (hagree c).2.2.1, (hagree c).2.2.2]
    exact (val_main_v23_eq _ _ _ _).trans (funext fun i => change _ _ _ _ i)
  · rw [(hagree c).2.1, (hagree c).2.2.1]
    exact (val_main_v4_eq _ _).trans (funext fun i => moment _ _ i)
  · rw [(hagree c).2.1, (hagree c).2.2.2]
    exact (val_main_v10_eq _ _).trans (funext fun i => square _ _ i)

end Cert.Proof.Adam

end
-- ==== Proof.SlotsClaim.lean ====
module

public import proofs.«01_k».proof.Defs
public import proofs.«01_k».proof.Proof.Gen.SlotsIdeal.Value
public import proofs.«01_k».proof.Proof.Gen.SlotsRefIdeal.Read
public import proofs.«01_k».proof.Proof.Kit
public import Idealize.ShloMosaic.Lib.Pipeline.ReadBack
public import Idealize.ShloMosaic.Lib.Pointwise
public import Idealize.ShloMosaic.Lib.ValueIdx

@[expose] public section

set_option maxRecDepth 16384

noncomputable section

namespace Cert.Proof.Slots

open Idealize.ShloMosaic Idealize.ShloMosaic.TcCoe Idealize.SL.Sem Cert.SlotsRefIdeal.Read

/-- The sum over the devices' slots, one slot after the other. -/
theorem reference (s : Vec Ideal Cert.SlotsIdeal.S8x48x1024 .f32) (i : Cert.SlotsIdeal.S48x1024.Idx) :
    val_main_v0 (F := Ideal) s i = Cert.SlotsIdeal.Value.G1 (F := Ideal) s i := by
  pointwise [val_main_v0, val_main_cst, Cert.SlotsIdeal.Value.G1, Cert.SlotsIdeal.Gen.k0_pay1]
  rw [Fin.sum_univ_eight]
  all_goals blk_point []

theorem algebraic : Cert.algebraic_SlotsIdeal_SlotsRefIdeal (hSlotsIdeal := Cert.SlotsIdeal.Gen.facts) (hSlotsRefIdeal := Cert.SlotsRefIdeal.Gen.facts) := by
  intro m g m' g' _ hagree
  refine ⟨_, Cert.SlotsIdeal.Value.run m g, ?_⟩
  refine (θ_run _ _ _).mono (fun r h c => ⟨(h c).1.trans ?_, (h c).2⟩) (Cert.SlotsRefIdeal.Value.run (F := Ideal) m' g')
  rw [hagree c]
  exact (val_main_v0_eq _).trans (funext fun i => reference _ i)

end Cert.Proof.Slots

end
-- ==== Proof.UpBits.lean ====
module

public import proofs.«01_k».proof.Defs
public import proofs.«01_k».proof.Proof.Gen.Up
public import proofs.«01_k».proof.Proof.UpFrame

@[expose] public section

set_option maxRecDepth 100000

noncomputable section

/-! The program over the bits is the idealized program's text, so that its frame is the same run read at `Bits`. -/

namespace Cert.Proof.Up

open Idealize.ShloMosaic Idealize.SL.Sem

/-- The two programs have one body. -/
theorem same_body : letI := Cert.Up.Gen.facts; letI := Cert.UpIdeal.Gen.facts
    Cert.Up.defs₀ (F := Bits) = Cert.UpIdeal.defs₀ (F := Bits) := by
  unfold Cert.Up.defs₀ Cert.UpIdeal.defs₀
  refine congrArg Defs.onTc (funext fun l => ?_)
  obtain ⟨l, hl⟩ := l
  obtain rfl : l = 0 := by omega
  exact funext fun a => rfl

/-- The two programs have one table of bodies. -/
theorem same_defs : letI := Cert.Up.Gen.facts; letI := Cert.UpIdeal.Gen.facts
    Cert.Up.defs (F := Bits) = Cert.UpIdeal.defs (F := Bits) :=
  letI := Cert.UpIdeal.Gen.facts
  congrArg (Pipeline.defs (Cert.UpIdeal.pcfgs (F := Bits))) same_body

theorem frame_bits : Cert.quiescent_Up (hUp := Cert.Up.Gen.facts) := fun m ρ _ =>
  letI := Cert.Up.Gen.facts
  letI := Cert.UpIdeal.Gen.facts
  (congrArg (fun d => θ_run d (onTc (Cert.UpIdeal.main (F := Bits))) ⟨m, fun _ => 0, ρ⟩ _) same_defs).mpr (run_frame (F := Bits) m ρ)

end Cert.Proof.Up

end
-- ==== Proof.MixInBits.lean ====
module

public import proofs.«01_k».proof.Defs
public import proofs.«01_k».proof.Proof.Gen.MixIn
public import proofs.«01_k».proof.Proof.MixInFrame

@[expose] public section

set_option maxRecDepth 100000

noncomputable section

/-! The program over the bits is the idealized program's text, so that its frame is the same run read at `Bits`. -/

namespace Cert.Proof.MixIn

open Idealize.ShloMosaic Idealize.SL.Sem

/-- The two programs have one body. -/
theorem same_body : letI := Cert.MixIn.Gen.facts; letI := Cert.MixInIdeal.Gen.facts
    Cert.MixIn.defs₀ (F := Bits) = Cert.MixInIdeal.defs₀ (F := Bits) := by
  unfold Cert.MixIn.defs₀ Cert.MixInIdeal.defs₀
  refine congrArg Defs.onTc (funext fun l => ?_)
  obtain ⟨l, hl⟩ := l
  obtain rfl : l = 0 := by omega
  exact funext fun a => rfl

/-- The two programs have one table of bodies. -/
theorem same_defs : letI := Cert.MixIn.Gen.facts; letI := Cert.MixInIdeal.Gen.facts
    Cert.MixIn.defs (F := Bits) = Cert.MixInIdeal.defs (F := Bits) :=
  letI := Cert.MixInIdeal.Gen.facts
  congrArg (Pipeline.defs (Cert.MixInIdeal.pcfgs (F := Bits))) same_body

theorem frame_bits : Cert.quiescent_MixIn (hMixIn := Cert.MixIn.Gen.facts) := fun m ρ _ =>
  letI := Cert.MixIn.Gen.facts
  letI := Cert.MixInIdeal.Gen.facts
  (congrArg (fun d => θ_run d (onTc (Cert.MixInIdeal.main (F := Bits))) ⟨m, fun _ => 0, ρ⟩ _) same_defs).mpr (run_frame (F := Bits) m ρ)

end Cert.Proof.MixIn

end
-- ==== Proof.lean ====
module

public import proofs.«01_k».proof.Defs
public import proofs.«01_k».proof.Proof.Gen.Up
public import proofs.«01_k».proof.Proof.Gen.UpIdeal
public import proofs.«01_k».proof.Proof.Gen.UpRefIdeal.Run
public import proofs.«01_k».proof.Proof.Gen.UpRefIdeal.Read
public import proofs.«01_k».proof.Proof.Gen.MixIn
public import proofs.«01_k».proof.Proof.Gen.MixInIdeal
public import proofs.«01_k».proof.Proof.Gen.MixInRefIdeal.Run
public import proofs.«01_k».proof.Proof.Gen.MixInRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import proofs.«01_k».proof.Proof.Gen.Dycat.Frame
public import proofs.«01_k».proof.Proof.Gen.DycatIdeal.Value
public import proofs.«01_k».proof.Proof.Gen.DycatRefIdeal.Run
public import proofs.«01_k».proof.Proof.Gen.DycatRefIdeal.Read
public import proofs.«01_k».proof.Proof.Gen.Dwd.Frame
public import proofs.«01_k».proof.Proof.Gen.DwdIdeal.Value
public import proofs.«01_k».proof.Proof.Gen.DwdRefIdeal.Run
public import proofs.«01_k».proof.Proof.Gen.DwdRefIdeal.Read
public import proofs.«01_k».proof.Proof.Gen.Dwg.Frame
public import proofs.«01_k».proof.Proof.Gen.DwgIdeal.Value
public import proofs.«01_k».proof.Proof.Gen.DwgRefIdeal.Run
public import proofs.«01_k».proof.Proof.Gen.DwgRefIdeal.Read
public import proofs.«01_k».proof.Proof.Gen.Dwout.Frame
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.Dwin.Frame
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.Slots.Frame
public import proofs.«01_k».proof.Proof.Gen.SlotsIdeal.Value
public import proofs.«01_k».proof.Proof.Gen.SlotsRefIdeal.Run
public import proofs.«01_k».proof.Proof.Gen.SlotsRefIdeal.Read
public import proofs.«01_k».proof.Proof.Gen.Pre_up_finite
public import proofs.«01_k».proof.Proof.Gen.Pre_dact_finite
public import proofs.«01_k».proof.Proof.Gen.Pre_prep_finite
public import proofs.«01_k».proof.Proof.UpClaim
public import proofs.«01_k».proof.Proof.MixInClaim
public import proofs.«01_k».proof.Proof.DownClaim
public import proofs.«01_k».proof.Proof.LossHeadClaim
public import proofs.«01_k».proof.Proof.MixOutClaim
public import proofs.«01_k».proof.Proof.DactClaim
public import proofs.«01_k».proof.Proof.DycatClaim
public import proofs.«01_k».proof.Proof.DwdClaim
public import proofs.«01_k».proof.Proof.DwgClaim
public import proofs.«01_k».proof.Proof.DwoutClaim
public import proofs.«01_k».proof.Proof.DwinClaim
public import proofs.«01_k».proof.Proof.PrepClaim
public import proofs.«01_k».proof.Proof.AdamClaim
public import proofs.«01_k».proof.Proof.SlotsClaim
public import proofs.«01_k».proof.Proof.UpBits
public import proofs.«01_k».proof.Proof.MixInBits

/-! The claim: every program ends with its semaphores at zero, and every kernel's arrays are its reference's. -/

@[expose] public section

namespace Cert.Proof

open Idealize.ShloMosaic Idealize.SL.Sem

theorem claim : Cert.Claim := ⟨Cert.Up.Gen.facts, Cert.UpIdeal.Gen.facts, Cert.UpRefIdeal.Gen.facts, Cert.MixIn.Gen.facts, Cert.MixInIdeal.Gen.facts, Cert.MixInRefIdeal.Gen.facts, Cert.Down.Gen.facts, Cert.DownIdeal.Gen.facts, Cert.DownRefIdeal.Gen.facts, Cert.LossHead.Gen.facts, Cert.LossHeadIdeal.Gen.facts, Cert.LossHeadRefIdeal.Gen.facts, Cert.MixOut.Gen.facts, Cert.MixOutIdeal.Gen.facts, Cert.MixOutRefIdeal.Gen.facts, Cert.Dact.Gen.facts, Cert.DactIdeal.Gen.facts, Cert.DactRefIdeal.Gen.facts, Cert.Dycat.Gen.facts, Cert.DycatIdeal.Gen.facts, Cert.DycatRefIdeal.Gen.facts, Cert.Dwd.Gen.facts, Cert.DwdIdeal.Gen.facts, Cert.DwdRefIdeal.Gen.facts, Cert.Dwg.Gen.facts, Cert.DwgIdeal.Gen.facts, Cert.DwgRefIdeal.Gen.facts, Cert.Dwout.Gen.facts, Cert.DwoutIdeal.Gen.facts, Cert.DwoutRefIdeal.Gen.facts, Cert.Dwin.Gen.facts, Cert.DwinIdeal.Gen.facts, Cert.DwinRefIdeal.Gen.facts, Cert.Prep.Gen.facts, Cert.PrepIdeal.Gen.facts, Cert.PrepRefIdeal.Gen.facts, Cert.Adam.Gen.facts, Cert.AdamIdeal.Gen.facts, Cert.AdamRefIdeal.Gen.facts, Cert.Slots.Gen.facts, Cert.SlotsIdeal.Gen.facts, Cert.SlotsRefIdeal.Gen.facts, Cert.Pre_up_finite.Gen.facts, Cert.Pre_dact_finite.Gen.facts, Cert.Pre_prep_finite.Gen.facts,
  Cert.Proof.Up.frame_bits,
  (fun m g _ => Cert.Proof.Up.run_frame (F := Ideal) m g),
  (fun m g _ => Cert.Proof.Up.run_frame (F := Ideal) m g),
  (fun m g _ => (θ_run _ _ _).mono (fun r h => ⟨fun c => (h c).2.2.2.2, sem_eq_zero_of_no_sems (by decide) r.2⟩) (Cert.UpRefIdeal.Value.run (F := Ideal) m g)),
  (fun m g _ => (θ_run _ _ _).mono (fun r h => ⟨fun c => (h c).2.2.2.2, sem_eq_zero_of_no_sems (by decide) r.2⟩) (Cert.UpRefIdeal.Value.run (F := Ideal) m g)),
  Cert.Proof.MixIn.frame_bits,
  (fun m g _ => Cert.Proof.MixIn.run_frame (F := Ideal) m g),
  (fun m g _ => (θ_run _ _ _).mono (fun r h => ⟨fun c => (h c).2.2, sem_eq_zero_of_no_sems (by decide) r.2⟩) (Cert.MixInRefIdeal.Value.run (F := Ideal) m g)),
  (fun m g _ => Cert.Down.Gen.frame m g),
  (fun m g _ => Cert.DownIdeal.Gen.frame m g),
  (fun m g _ => (θ_run _ _ _).mono (fun r h => ⟨fun c => (h c).2, sem_eq_zero_of_no_sems (by decide) r.2⟩) (Cert.DownRefIdeal.Value.run (F := Ideal) m g)),
  (fun m g _ => Cert.LossHead.Gen.frame m g),
  (fun m g _ => Cert.LossHeadIdeal.Gen.frame m g),
  (fun m g _ => (θ_run _ _ _).mono (fun r h => ⟨fun c => (h c).2.2.2, sem_eq_zero_of_no_sems (by decide) r.2⟩) (Cert.LossHeadRefIdeal.Value.run (F := Ideal) m g)),
  (fun m g _ => Cert.MixOut.Gen.frame m g),
  (fun m g _ => Cert.MixOutIdeal.Gen.frame m g),
  (fun m g _ => (θ_run _ _ _).mono (fun r h => ⟨fun c => (h c).2, sem_eq_zero_of_no_sems (by decide) r.2⟩) (Cert.MixOutRefIdeal.Value.run (F := Ideal) m g)),
  (fun m g _ => Cert.Dact.Gen.frame m g),
  (fun m g _ => Cert.DactIdeal.Gen.frame m g),
  (fun m g _ => Cert.DactIdeal.Gen.frame m g),
  (fun m g _ => (θ_run _ _ _).mono (fun r h => ⟨fun c => (h c).2.2, sem_eq_zero_of_no_sems (by decide) r.2⟩) (Cert.DactRefIdeal.Value.run (F := Ideal) m g)),
  (fun m g _ => (θ_run _ _ _).mono (fun r h => ⟨fun c => (h c).2.2, sem_eq_zero_of_no_sems (by decide) r.2⟩) (Cert.DactRefIdeal.Value.run (F := Ideal) m g)),
  (fun m g _ => Cert.Dycat.Gen.frame m g),
  (fun m g _ => Cert.DycatIdeal.Gen.frame m g),
  (fun m g _ => (θ_run _ _ _).mono (fun r h => ⟨fun c => (h c).2.2, sem_eq_zero_of_no_sems (by decide) r.2⟩) (Cert.DycatRefIdeal.Value.run (F := Ideal) m g)),
  (fun m g _ => Cert.Dwd.Gen.frame m g),
  (fun m g _ => Cert.DwdIdeal.Gen.frame m g),
  (fun m g _ => (θ_run _ _ _).mono (fun r h => ⟨fun c => (h c).2, sem_eq_zero_of_no_sems (by decide) r.2⟩) (Cert.DwdRefIdeal.Value.run (F := Ideal) m g)),
  (fun m g _ => Cert.Dwg.Gen.frame m g),
  (fun m g _ => Cert.DwgIdeal.Gen.frame m g),
  (fun m g _ => (θ_run _ _ _).mono (fun r h => ⟨fun c => (h c).2, sem_eq_zero_of_no_sems (by decide) r.2⟩) (Cert.DwgRefIdeal.Value.run (F := Ideal) m g)),
  (fun m g _ => Cert.Dwout.Gen.frame m g),
  (fun m g _ => Cert.DwoutIdeal.Gen.frame m g),
  (fun m g _ => (θ_run _ _ _).mono (fun r h => ⟨fun c => (h c).2, sem_eq_zero_of_no_sems (by decide) r.2⟩) (Cert.DwoutRefIdeal.Value.run (F := Ideal) m g)),
  (fun m g _ => Cert.Dwin.Gen.frame m g),
  (fun m g _ => Cert.DwinIdeal.Gen.frame m g),
  (fun m g _ => (θ_run _ _ _).mono (fun r h => ⟨fun c => (h c).2, sem_eq_zero_of_no_sems (by decide) r.2⟩) (Cert.DwinRefIdeal.Value.run (F := Ideal) m g)),
  (fun m g _ => Cert.Prep.Gen.frame m g),
  (fun m g _ => Cert.PrepIdeal.Gen.frame m g),
  (fun m g _ => Cert.PrepIdeal.Gen.frame m g),
  (fun m g _ => (θ_run _ _ _).mono (fun r h => ⟨fun c => (h c).2, sem_eq_zero_of_no_sems (by decide) r.2⟩) (Cert.PrepRefIdeal.Value.run (F := Ideal) m g)),
  (fun m g _ => (θ_run _ _ _).mono (fun r h => ⟨fun c => (h c).2, sem_eq_zero_of_no_sems (by decide) r.2⟩) (Cert.PrepRefIdeal.Value.run (F := Ideal) m g)),
  (fun m g _ => Cert.Adam.Gen.frame m g),
  (fun m g _ => Cert.AdamIdeal.Gen.frame m g),
  (fun m g _ => (θ_run _ _ _).mono (fun r h => ⟨fun c => (h c).2.2.2, sem_eq_zero_of_no_sems (by decide) r.2⟩) (Cert.AdamRefIdeal.Value.run (F := Ideal) m g)),
  (fun m g _ => Cert.Slots.Gen.frame m g),
  (fun m g _ => Cert.SlotsIdeal.Gen.frame m g),
  (fun m g _ => (θ_run _ _ _).mono (fun r h => ⟨fun c => (h c).2, sem_eq_zero_of_no_sems (by decide) r.2⟩) (Cert.SlotsRefIdeal.Value.run (F := Ideal) m g)),
  trivial,
  Cert.Proof.Up.algebraic,
  trivial,
  Cert.Proof.MixIn.algebraic,
  trivial,
  Cert.Proof.Down.algebraic,
  trivial,
  Cert.Proof.LossHead.algebraic,
  trivial,
  Cert.Proof.MixOut.algebraic,
  trivial,
  Cert.Proof.Dact.algebraic,
  trivial,
  Cert.Proof.Dycat.algebraic,
  trivial,
  Cert.Proof.Dwd.algebraic,
  trivial,
  Cert.Proof.Dwg.algebraic,
  trivial,
  Cert.Proof.Dwout.algebraic,
  trivial,
  Cert.Proof.Dwin.algebraic,
  trivial,
  Cert.Proof.Prep.algebraic,
  trivial,
  Cert.Proof.Adam.algebraic,
  trivial,
  Cert.Proof.Slots.algebraic⟩

end Cert.Proof

end
